-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S8x8192x1024 : Shape := ⟨3, ![8, 8192, 1024]⟩
abbrev S2x1024 : Shape := ⟨2, ![2, 1024]⟩
abbrev S2x1024x2832 : Shape := ⟨3, ![2, 1024, 2832]⟩
abbrev S2x256 : Shape := ⟨2, ![2, 256]⟩
abbrev S2x4x512 : Shape := ⟨3, ![2, 4, 512]⟩
abbrev S2x512 : Shape := ⟨2, ![2, 512]⟩
abbrev S2x8x64x64 : Shape := ⟨4, ![2, 8, 64, 64]⟩
abbrev S2x16x128 : Shape := ⟨3, ![2, 16, 128]⟩
abbrev S2x128 : Shape := ⟨2, ![2, 128]⟩
abbrev S2x1024x1024 : Shape := ⟨3, ![2, 1024, 1024]⟩
abbrev S2x1024x2688 : Shape := ⟨3, ![2, 1024, 2688]⟩
abbrev S2x3x2688 : Shape := ⟨3, ![2, 3, 2688]⟩
abbrev S2x2688 : Shape := ⟨2, ![2, 2688]⟩
abbrev S2x2688x1024 : Shape := ⟨3, ![2, 2688, 1024]⟩
abbrev S1024 : Shape := ⟨1, ![1024]⟩
abbrev S256x256 : Shape := ⟨2, ![256, 256]⟩
abbrev S256x128 : Shape := ⟨2, ![256, 128]⟩
abbrev S2x1x1024 : Shape := ⟨3, ![2, 1, 1024]⟩
abbrev S_ : Shape := ⟨0, ![]⟩
abbrev S2x1024x2944 : Shape := ⟨3, ![2, 1024, 2944]⟩
abbrev S2x1x256 : Shape := ⟨3, ![2, 1, 256]⟩
abbrev S2x1x512 : Shape := ⟨3, ![2, 1, 512]⟩
abbrev S2x2 : Shape := ⟨2, ![2, 2]⟩
abbrev S2x4x2x64x64 : Shape := ⟨5, ![2, 4, 2, 64, 64]⟩
abbrev S1x2x1x2x1 : Shape := ⟨5, ![1, 2, 1, 2, 1]⟩
abbrev S2x4x2x64x1x64 : Shape := ⟨6, ![2, 4, 2, 64, 1, 64]⟩
abbrev S1x1x2x1x2x1 : Shape := ⟨6, ![1, 1, 2, 1, 2, 1]⟩
abbrev S2x4x2x64x2x64 : Shape := ⟨6, ![2, 4, 2, 64, 2, 64]⟩
abbrev S2x4x128x128 : Shape := ⟨4, ![2, 4, 128, 128]⟩
abbrev S2x4x128x256 : Shape := ⟨4, ![2, 4, 128, 256]⟩
abbrev S2x128x128 : Shape := ⟨3, ![2, 128, 128]⟩
abbrev S2x1x128 : Shape := ⟨3, ![2, 1, 128]⟩
abbrev S2x1024x5376 : Shape := ⟨3, ![2, 1024, 5376]⟩
abbrev S2x1x2688 : Shape := ⟨3, ![2, 1, 2688]⟩
abbrev S1x1024 : Shape := ⟨2, ![1, 1024]⟩
abbrev S2x1024x256 : Shape := ⟨3, ![2, 1024, 256]⟩
abbrev S2x1024x512 : Shape := ⟨3, ![2, 1024, 512]⟩
abbrev S2 : Shape := ⟨1, ![2]⟩
abbrev S2x1x1 : Shape := ⟨3, ![2, 1, 1]⟩
abbrev S1x256x1024 : Shape := ⟨3, ![1, 256, 1024]⟩
abbrev S1x1x256 : Shape := ⟨3, ![1, 1, 256]⟩
abbrev S1x1x1024 : Shape := ⟨3, ![1, 1, 1024]⟩
abbrev S1x1024x2944 : Shape := ⟨3, ![1, 1024, 2944]⟩
abbrev S1x4x512 : Shape := ⟨3, ![1, 4, 512]⟩
abbrev S1x1x512 : Shape := ⟨3, ![1, 1, 512]⟩
abbrev S1x4x128x256 : Shape := ⟨4, ![1, 4, 128, 256]⟩
abbrev S1x128x128 : Shape := ⟨3, ![1, 128, 128]⟩
abbrev S1x1x128 : Shape := ⟨3, ![1, 1, 128]⟩
abbrev S1x1024x1024 : Shape := ⟨3, ![1, 1024, 1024]⟩
abbrev S1x512 : Shape := ⟨2, ![1, 512]⟩
abbrev S8x512 : Shape := ⟨2, ![8, 512]⟩
abbrev S256x2944 : Shape := ⟨2, ![256, 2944]⟩
abbrev S256x1024 : Shape := ⟨2, ![256, 1024]⟩
abbrev S4x4x320x128 : Shape := ⟨4, ![4, 4, 320, 128]⟩
abbrev S3x2x320x128 : Shape := ⟨4, ![3, 2, 320, 128]⟩
abbrev S256 : Shape := ⟨1, ![256]⟩
abbrev S256x1 : Shape := ⟨2, ![256, 1]⟩
abbrev S1x256x256 : Shape := ⟨3, ![1, 256, 256]⟩
abbrev S1x1024x256 : Shape := ⟨3, ![1, 1024, 256]⟩
abbrev S1024x256 : Shape := ⟨2, ![1024, 256]⟩
abbrev S1x256 : Shape := ⟨2, ![1, 256]⟩
abbrev S32x128 : Shape := ⟨2, ![32, 128]⟩
abbrev S1x1x32x128 : Shape := ⟨4, ![1, 1, 32, 128]⟩
abbrev S1x1x8x128 : Shape := ⟨4, ![1, 1, 8, 128]⟩
abbrev S8x128 : Shape := ⟨2, ![8, 128]⟩
abbrev S1x128 : Shape := ⟨2, ![1, 128]⟩
abbrev S4x64x256 : Shape := ⟨3, ![4, 64, 256]⟩
abbrev S4x1x256 : Shape := ⟨3, ![4, 1, 256]⟩
abbrev S1 : Shape := ⟨1, ![1]⟩
abbrev S1x1x1 : Shape := ⟨3, ![1, 1, 1]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S128x128 : Shape := ⟨2, ![128, 128]⟩
abbrev S4x64x128 : Shape := ⟨3, ![4, 64, 128]⟩
abbrev S4x1x128 : Shape := ⟨3, ![4, 1, 128]⟩
abbrev S1x256x128 : Shape := ⟨3, ![1, 256, 128]⟩
abbrev S64x256 : Shape := ⟨2, ![64, 256]⟩
abbrev S64x128 : Shape := ⟨2, ![64, 128]⟩
abbrev S1x4x128 : Shape := ⟨3, ![1, 4, 128]⟩
abbrev S4x128 : Shape := ⟨2, ![4, 128]⟩
abbrev S248x128 : Shape := ⟨2, ![248, 128]⟩
abbrev S1x1x128x256 : Shape := ⟨4, ![1, 1, 128, 256]⟩
abbrev S128x256 : Shape := ⟨2, ![128, 256]⟩
abbrev S1x4x320x128 : Shape := ⟨4, ![1, 4, 320, 128]⟩
abbrev S4x320x128 : Shape := ⟨3, ![4, 320, 128]⟩
abbrev S1x32x128 : Shape := ⟨3, ![1, 32, 128]⟩
abbrev S1x8x128 : Shape := ⟨3, ![1, 8, 128]⟩
abbrev S512x256 : Shape := ⟨2, ![512, 256]⟩
abbrev S1x1024x384 : Shape := ⟨3, ![1, 1024, 384]⟩
abbrev S1024x384 : Shape := ⟨2, ![1024, 384]⟩
abbrev S256x384 : Shape := ⟨2, ![256, 384]⟩
abbrev S32x8x256 : Shape := ⟨3, ![32, 8, 256]⟩
abbrev S32x1x256 : Shape := ⟨3, ![32, 1, 256]⟩
abbrev S16x16x256 : Shape := ⟨3, ![16, 16, 256]⟩
abbrev S16x1x256 : Shape := ⟨3, ![16, 1, 256]⟩
abbrev S8x32x256 : Shape := ⟨3, ![8, 32, 256]⟩
abbrev S8x1x256 : Shape := ⟨3, ![8, 1, 256]⟩
abbrev S32x8x128 : Shape := ⟨3, ![32, 8, 128]⟩
abbrev S32x1x128 : Shape := ⟨3, ![32, 1, 128]⟩
abbrev S16x16x128 : Shape := ⟨3, ![16, 16, 128]⟩
abbrev S16x1x128 : Shape := ⟨3, ![16, 1, 128]⟩
abbrev S8x32x128 : Shape := ⟨3, ![8, 32, 128]⟩
abbrev S8x1x128 : Shape := ⟨3, ![8, 1, 128]⟩
abbrev S1x512x1024 : Shape := ⟨3, ![1, 512, 1024]⟩
abbrev S1x1024x5376 : Shape := ⟨3, ![1, 1024, 5376]⟩
abbrev S1x3x2688 : Shape := ⟨3, ![1, 3, 2688]⟩
abbrev S1x1x2688 : Shape := ⟨3, ![1, 1, 2688]⟩
abbrev S1x2688x1024 : Shape := ⟨3, ![1, 2688, 1024]⟩
abbrev S520x2688 : Shape := ⟨2, ![520, 2688]⟩
abbrev S8x2688 : Shape := ⟨2, ![8, 2688]⟩
abbrev S512x1024 : Shape := ⟨2, ![512, 1024]⟩
abbrev S512 : Shape := ⟨1, ![512]⟩
abbrev S512x1 : Shape := ⟨2, ![512, 1]⟩
abbrev S1024x5376 : Shape := ⟨2, ![1024, 5376]⟩
abbrev S512x5376 : Shape := ⟨2, ![512, 5376]⟩
abbrev S512x2688 : Shape := ⟨2, ![512, 2688]⟩
abbrev S3x2688 : Shape := ⟨2, ![3, 2688]⟩
abbrev S1x2688 : Shape := ⟨2, ![1, 2688]⟩
abbrev S2688x1024 : Shape := ⟨2, ![2688, 1024]⟩

abbrev nBuf : Space → Nat
  | .hbm => 111
  | .vmem => 84
  | .smem => 0
  | _ => 0

abbrev bufTy : (tb : Table) → Fin (tcTables nBuf tb) → BufTy
  | .hbm, ⟨0, _⟩ => ⟨S8x8192x1024, .f32⟩
  | .hbm, ⟨1, _⟩ => ⟨S2x1024, .f32⟩
  | .hbm, ⟨2, _⟩ => ⟨S2x1024x2832, .f32⟩
  | .hbm, ⟨3, _⟩ => ⟨S2x256, .f32⟩
  | .hbm, ⟨4, _⟩ => ⟨S2x256, .f32⟩
  | .hbm, ⟨5, _⟩ => ⟨S2x4x512, .f32⟩
  | .hbm, ⟨6, _⟩ => ⟨S2x512, .f32⟩
  | .hbm, ⟨7, _⟩ => ⟨S2x8x64x64, .f32⟩
  | .hbm, ⟨8, _⟩ => ⟨S2x512, .f32⟩
  | .hbm, ⟨9, _⟩ => ⟨S2x8x64x64, .f32⟩
  | .hbm, ⟨10, _⟩ => ⟨S2x512, .f32⟩
  | .hbm, ⟨11, _⟩ => ⟨S2x512, .f32⟩
  | .hbm, ⟨12, _⟩ => ⟨S2x16x128, .f32⟩
  | .hbm, ⟨13, _⟩ => ⟨S2x128, .f32⟩
  | .hbm, ⟨14, _⟩ => ⟨S2x256, .f32⟩
  | .hbm, ⟨15, _⟩ => ⟨S2x1024x1024, .f32⟩
  | .hbm, ⟨16, _⟩ => ⟨S2x1024, .f32⟩
  | .hbm, ⟨17, _⟩ => ⟨S2x1024x2688, .f32⟩
  | .hbm, ⟨18, _⟩ => ⟨S2x1024x2688, .f32⟩
  | .hbm, ⟨19, _⟩ => ⟨S2x3x2688, .f32⟩
  | .hbm, ⟨20, _⟩ => ⟨S2x2688, .f32⟩
  | .hbm, ⟨21, _⟩ => ⟨S2x2688x1024, .f32⟩
  | .hbm, ⟨22, _⟩ => ⟨S1024, .f32⟩
  | .hbm, ⟨23, _⟩ => ⟨S256x256, .bf16⟩
  | .hbm, ⟨24, _⟩ => ⟨S256x128, .bf16⟩
  | .hbm, ⟨25, _⟩ => ⟨S2x1x1024, .f32⟩
  | .hbm, ⟨26, _⟩ => ⟨S_, .i32⟩
  | .hbm, ⟨27, _⟩ => ⟨S_, .f32⟩
  | .hbm, ⟨28, _⟩ => ⟨S2x1024x2944, .f32⟩
  | .hbm, ⟨29, _⟩ => ⟨S2x1024x2944, .bf16⟩
  | .hbm, ⟨30, _⟩ => ⟨S2x1x256, .f32⟩
  | .hbm, ⟨31, _⟩ => ⟨S2x1x512, .f32⟩
  | .hbm, ⟨32, _⟩ => ⟨S2x2, .i32⟩
  | .hbm, ⟨33, _⟩ => ⟨S2x2, .i32⟩
  | .hbm, ⟨34, _⟩ => ⟨S_, .i32⟩
  | .hbm, ⟨35, _⟩ => ⟨S2x2, .i32⟩
  | .hbm, ⟨36, _⟩ => ⟨S2x2, .i32⟩
  | .hbm, ⟨37, _⟩ => ⟨S2x2, .i1⟩
  | .hbm, ⟨38, _⟩ => ⟨S2x2, .f32⟩
  | .hbm, ⟨39, _⟩ => ⟨S2x4x2x64x64, .f32⟩
  | .hbm, ⟨40, _⟩ => ⟨S1x2x1x2x1, .f32⟩
  | .hbm, ⟨41, _⟩ => ⟨S2x4x2x64x1x64, .f32⟩
  | .hbm, ⟨42, _⟩ => ⟨S1x1x2x1x2x1, .f32⟩
  | .hbm, ⟨43, _⟩ => ⟨S2x4x2x64x2x64, .f32⟩
  | .hbm, ⟨44, _⟩ => ⟨S2x4x2x64x2x64, .f32⟩
  | .hbm, ⟨45, _⟩ => ⟨S2x4x2x64x2x64, .f32⟩
  | .hbm, ⟨46, _⟩ => ⟨S2x4x128x128, .f32⟩
  | .hbm, ⟨47, _⟩ => ⟨S2x2, .i32⟩
  | .hbm, ⟨48, _⟩ => ⟨S2x2, .i32⟩
  | .hbm, ⟨49, _⟩ => ⟨S_, .i32⟩
  | .hbm, ⟨50, _⟩ => ⟨S2x2, .i32⟩
  | .hbm, ⟨51, _⟩ => ⟨S2x2, .i32⟩
  | .hbm, ⟨52, _⟩ => ⟨S2x2, .i1⟩
  | .hbm, ⟨53, _⟩ => ⟨S2x2, .f32⟩
  | .hbm, ⟨54, _⟩ => ⟨S2x4x2x64x64, .f32⟩
  | .hbm, ⟨55, _⟩ => ⟨S1x2x1x2x1, .f32⟩
  | .hbm, ⟨56, _⟩ => ⟨S2x4x2x64x1x64, .f32⟩
  | .hbm, ⟨57, _⟩ => ⟨S1x1x2x1x2x1, .f32⟩
  | .hbm, ⟨58, _⟩ => ⟨S2x4x2x64x2x64, .f32⟩
  | .hbm, ⟨59, _⟩ => ⟨S2x4x2x64x2x64, .f32⟩
  | .hbm, ⟨60, _⟩ => ⟨S2x4x2x64x2x64, .f32⟩
  | .hbm, ⟨61, _⟩ => ⟨S2x4x128x128, .f32⟩
  | .hbm, ⟨62, _⟩ => ⟨S2x4x128x256, .f32⟩
  | .hbm, ⟨63, _⟩ => ⟨S2x4x128x256, .bf16⟩
  | .hbm, ⟨64, _⟩ => ⟨S2x1x512, .f32⟩
  | .hbm, ⟨65, _⟩ => ⟨S2x1x512, .f32⟩
  | .hbm, ⟨66, _⟩ => ⟨S2x1x512, .f32⟩
  | .hbm, ⟨67, _⟩ => ⟨S_, .i32⟩
  | .hbm, ⟨68, _⟩ => ⟨S_, .f32⟩
  | .hbm, ⟨69, _⟩ => ⟨S2x128x128, .f32⟩
  | .hbm, ⟨70, _⟩ => ⟨S2x128x128, .bf16⟩
  | .hbm, ⟨71, _⟩ => ⟨S2x1x128, .f32⟩
  | .hbm, ⟨72, _⟩ => ⟨S2x1x256, .f32⟩
  | .hbm, ⟨73, _⟩ => ⟨S2x1024x1024, .bf16⟩
  | .hbm, ⟨74, _⟩ => ⟨S2x1x1024, .f32⟩
  | .hbm, ⟨75, _⟩ => ⟨S2x1024x5376, .f32⟩
  | .hbm, ⟨76, _⟩ => ⟨S2x1024x5376, .bf16⟩
  | .hbm, ⟨77, _⟩ => ⟨S2x1x2688, .f32⟩
  | .hbm, ⟨78, _⟩ => ⟨S2x2688x1024, .bf16⟩
  | .hbm, ⟨79, _⟩ => ⟨S1x1024, .f32⟩
  | .hbm, ⟨80, _⟩ => ⟨S2x1024x256, .f32⟩
  | .hbm, ⟨81, _⟩ => ⟨S2x1024x256, .f32⟩
  | .hbm, ⟨82, _⟩ => ⟨S2x1024x512, .f32⟩
  | .hbm, ⟨83, _⟩ => ⟨S2x1024, .f32⟩
  | .hbm, ⟨84, _⟩ => ⟨S_, .f32⟩
  | .hbm, ⟨85, _⟩ => ⟨S2, .f32⟩
  | .hbm, ⟨86, _⟩ => ⟨S_, .f32⟩
  | .hbm, ⟨87, _⟩ => ⟨S2, .f32⟩
  | .hbm, ⟨88, _⟩ => ⟨S2, .f32⟩
  | .hbm, ⟨89, _⟩ => ⟨S2x1024x512, .f32⟩
  | .hbm, ⟨90, _⟩ => ⟨S_, .f32⟩
  | .hbm, ⟨91, _⟩ => ⟨S2x512, .f32⟩
  | .hbm, ⟨92, _⟩ => ⟨S_, .f32⟩
  | .hbm, ⟨93, _⟩ => ⟨S2, .f32⟩
  | .hbm, ⟨94, _⟩ => ⟨S2, .f32⟩
  | .hbm, ⟨95, _⟩ => ⟨S2, .f32⟩
  | .hbm, ⟨96, _⟩ => ⟨S_, .f32⟩
  | .hbm, ⟨97, _⟩ => ⟨S2, .f32⟩
  | .hbm, ⟨98, _⟩ => ⟨S2, .i1⟩
  | .hbm, ⟨99, _⟩ => ⟨S_, .f32⟩
  | .hbm, ⟨100, _⟩ => ⟨S_, .f32⟩
  | .hbm, ⟨101, _⟩ => ⟨S2, .f32⟩
  | .hbm, ⟨102, _⟩ => ⟨S2, .f32⟩
  | .hbm, ⟨103, _⟩ => ⟨S2, .f32⟩
  | .hbm, ⟨104, _⟩ => ⟨S2, .f32⟩
  | .hbm, ⟨105, _⟩ => ⟨S2x1x1, .f32⟩
  | .hbm, ⟨106, _⟩ => ⟨S2x1x256, .f32⟩
  | .hbm, ⟨107, _⟩ => ⟨S8x8192x1024, .f32⟩
  | .hbm, ⟨108, _⟩ => ⟨S8x8192x1024, .f32⟩
  | .hbm, ⟨109, _⟩ => ⟨S8x8192x1024, .f32⟩
  | .hbm, ⟨110, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x256, .bf16⟩
  | .local _ .vmem, ⟨5, _⟩ => ⟨S256x128, .bf16⟩
  | .local _ .vmem, ⟨6, _⟩ => ⟨S1x1x256, .f32⟩
  | .local _ .vmem, ⟨7, _⟩ => ⟨S1x1x1024, .f32⟩
  | .local _ .vmem, ⟨8, _⟩ => ⟨S1x1024x2944, .bf16⟩
  | .local _ .vmem, ⟨9, _⟩ => ⟨S2x256, .f32⟩
  | .local _ .vmem, ⟨10, _⟩ => ⟨S1x1x256, .f32⟩
  | .local _ .vmem, ⟨11, _⟩ => ⟨S1x4x512, .f32⟩
  | .local _ .vmem, ⟨12, _⟩ => ⟨S1x1x512, .f32⟩
  | .local _ .vmem, ⟨13, _⟩ => ⟨S1x4x128x256, .bf16⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x128x128, .bf16⟩
  | .local _ .vmem, ⟨18, _⟩ => ⟨S1x1x128, .f32⟩
  | .local _ .vmem, ⟨19, _⟩ => ⟨S1x1x256, .f32⟩
  | .local _ .vmem, ⟨20, _⟩ => ⟨S1x1024x1024, .bf16⟩
  | .local _ .vmem, ⟨21, _⟩ => ⟨S1x256x1024, .f32⟩
  | .local _ .vmem, ⟨22, _⟩ => ⟨S1x256x1024, .f32⟩
  | .local _ .vmem, ⟨23, _⟩ => ⟨S256x256, .f32⟩
  | .local _ .vmem, ⟨24, _⟩ => ⟨S256x128, .f32⟩
  | .local _ .vmem, ⟨25, _⟩ => ⟨S1x512, .f32⟩
  | .local _ .vmem, ⟨26, _⟩ => ⟨S8x512, .f32⟩
  | .local _ .vmem, ⟨27, _⟩ => ⟨S256x2944, .f32⟩
  | .local _ .vmem, ⟨28, _⟩ => ⟨S256x1024, .bf16⟩
  | .local _ .vmem, ⟨29, _⟩ => ⟨S4x4x320x128, .f32⟩
  | .local _ .vmem, ⟨30, _⟩ => ⟨S3x2x320x128, .f32⟩
  | .local _ .vmem, ⟨31, _⟩ => ⟨S1x512x1024, .f32⟩
  | .local _ .vmem, ⟨32, _⟩ => ⟨S1x512x1024, .f32⟩
  | .local _ .vmem, ⟨33, _⟩ => ⟨S1x1x1024, .f32⟩
  | .local _ .vmem, ⟨34, _⟩ => ⟨S1x1024x5376, .bf16⟩
  | .local _ .vmem, ⟨35, _⟩ => ⟨S1x3x2688, .f32⟩
  | .local _ .vmem, ⟨36, _⟩ => ⟨S1x1x2688, .f32⟩
  | .local _ .vmem, ⟨37, _⟩ => ⟨S1x2688x1024, .bf16⟩
  | .local _ .vmem, ⟨38, _⟩ => ⟨S1x1024, .f32⟩
  | .local _ .vmem, ⟨39, _⟩ => ⟨S1x512x1024, .f32⟩
  | .local _ .vmem, ⟨40, _⟩ => ⟨S1x512x1024, .f32⟩
  | .local _ .vmem, ⟨41, _⟩ => ⟨S520x2688, .f32⟩
  | .local _ .vmem, ⟨42, _⟩ => ⟨S1x256x1024, .f32⟩
  | .local _ .vmem, ⟨43, _⟩ => ⟨S1x256x1024, .f32⟩
  | .local _ .vmem, ⟨44, _⟩ => ⟨S1x256x1024, .f32⟩
  | .local _ .vmem, ⟨45, _⟩ => ⟨S1x256x1024, .f32⟩
  | .local _ .vmem, ⟨46, _⟩ => ⟨S256x256, .bf16⟩
  | .local _ .vmem, ⟨47, _⟩ => ⟨S256x128, .bf16⟩
  | .local _ .vmem, ⟨48, _⟩ => ⟨S1x1x256, .f32⟩
  | .local _ .vmem, ⟨49, _⟩ => ⟨S1x1x1024, .f32⟩
  | .local _ .vmem, ⟨50, _⟩ => ⟨S1x1024x2944, .bf16⟩
  | .local _ .vmem, ⟨51, _⟩ => ⟨S2x256, .f32⟩
  | .local _ .vmem, ⟨52, _⟩ => ⟨S1x1x256, .f32⟩
  | .local _ .vmem, ⟨53, _⟩ => ⟨S1x4x512, .f32⟩
  | .local _ .vmem, ⟨54, _⟩ => ⟨S1x1x512, .f32⟩
  | .local _ .vmem, ⟨55, _⟩ => ⟨S1x4x128x256, .bf16⟩
  | .local _ .vmem, ⟨56, _⟩ => ⟨S1x1x512, .f32⟩
  | .local _ .vmem, ⟨57, _⟩ => ⟨S1x1x512, .f32⟩
  | .local _ .vmem, ⟨58, _⟩ => ⟨S1x1x512, .f32⟩
  | .local _ .vmem, ⟨59, _⟩ => ⟨S1x128x128, .bf16⟩
  | .local _ .vmem, ⟨60, _⟩ => ⟨S1x1x128, .f32⟩
  | .local _ .vmem, ⟨61, _⟩ => ⟨S1x1x256, .f32⟩
  | .local _ .vmem, ⟨62, _⟩ => ⟨S1x1024x1024, .bf16⟩
  | .local _ .vmem, ⟨63, _⟩ => ⟨S1x256x1024, .f32⟩
  | .local _ .vmem, ⟨64, _⟩ => ⟨S1x256x1024, .f32⟩
  | .local _ .vmem, ⟨65, _⟩ => ⟨S256x256, .f32⟩
  | .local _ .vmem, ⟨66, _⟩ => ⟨S256x128, .f32⟩
  | .local _ .vmem, ⟨67, _⟩ => ⟨S1x512, .f32⟩
  | .local _ .vmem, ⟨68, _⟩ => ⟨S8x512, .f32⟩
  | .local _ .vmem, ⟨69, _⟩ => ⟨S256x2944, .f32⟩
  | .local _ .vmem, ⟨70, _⟩ => ⟨S256x1024, .bf16⟩
  | .local _ .vmem, ⟨71, _⟩ => ⟨S4x4x320x128, .f32⟩
  | .local _ .vmem, ⟨72, _⟩ => ⟨S3x2x320x128, .f32⟩
  | .local _ .vmem, ⟨73, _⟩ => ⟨S1x512x1024, .f32⟩
  | .local _ .vmem, ⟨74, _⟩ => ⟨S1x512x1024, .f32⟩
  | .local _ .vmem, ⟨75, _⟩ => ⟨S1x1x1024, .f32⟩
  | .local _ .vmem, ⟨76, _⟩ => ⟨S1x1024x5376, .bf16⟩
  | .local _ .vmem, ⟨77, _⟩ => ⟨S1x3x2688, .f32⟩
  | .local _ .vmem, ⟨78, _⟩ => ⟨S1x1x2688, .f32⟩
  | .local _ .vmem, ⟨79, _⟩ => ⟨S1x2688x1024, .bf16⟩
  | .local _ .vmem, ⟨80, _⟩ => ⟨S1x1024, .f32⟩
  | .local _ .vmem, ⟨81, _⟩ => ⟨S1x512x1024, .f32⟩
  | .local _ .vmem, ⟨82, _⟩ => ⟨S1x512x1024, .f32⟩
  | .local _ .vmem, ⟨83, _⟩ => ⟨S520x2688, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_cst_0 : Ref sig .tc := ⟨.hbm, 24, rfl⟩
abbrev main_v0 : Ref sig .tc := ⟨.hbm, 25, rfl⟩
abbrev main_c : Ref sig .tc := ⟨.hbm, 26, rfl⟩
abbrev main_call0_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_c_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_2 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_3 : Ref sig .tc := ⟨.hbm, 67, rfl⟩
abbrev main_call1_v0 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_4 : Ref sig .tc := ⟨.hbm, 84, rfl⟩
abbrev main_v53 : Ref sig .tc := ⟨.hbm, 85, rfl⟩
abbrev main_cst_5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_6 : Ref sig .tc := ⟨.hbm, 90, rfl⟩
abbrev main_v57 : Ref sig .tc := ⟨.hbm, 91, rfl⟩
abbrev main_cst_7 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_8 : Ref sig .tc := ⟨.hbm, 96, rfl⟩
abbrev main_v61 : Ref sig .tc := ⟨.hbm, 97, rfl⟩
abbrev main_v62 : Ref sig .tc := ⟨.hbm, 98, rfl⟩
abbrev main_cst_9 : Ref sig .tc := ⟨.hbm, 99, rfl⟩
abbrev main_cst_10 : Ref sig .tc := ⟨.hbm, 100, rfl⟩
abbrev main_call2_v0 : Ref sig .tc := ⟨.hbm, 101, rfl⟩
abbrev main_call2_v1 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc1_stg0_0 : Ref sig .tc := ⟨.vmem, 31, rfl⟩
abbrev cc1_stg0_1 : Ref sig .tc := ⟨.vmem, 32, rfl⟩
abbrev cc1_stg1_0 : Ref sig .tc := ⟨.vmem, 33, rfl⟩
abbrev cc1_stg2_0 : Ref sig .tc := ⟨.vmem, 34, rfl⟩
abbrev cc1_stg3_0 : Ref sig .tc := ⟨.vmem, 35, rfl⟩
abbrev cc1_stg4_0 : Ref sig .tc := ⟨.vmem, 36, rfl⟩
abbrev cc1_stg5_0 : Ref sig .tc := ⟨.vmem, 37, rfl⟩
abbrev cc1_stg6_0 : Ref sig .tc := ⟨.vmem, 38, rfl⟩
abbrev cc1_stg7_0 : Ref sig .tc := ⟨.vmem, 39, rfl⟩
abbrev cc1_stg7_1 : Ref sig .tc := ⟨.vmem, 40, rfl⟩
abbrev cc1_scratch0 : Ref sig .tc := ⟨.vmem, 41, rfl⟩
abbrev cc2_stg0_0 : Ref sig .tc := ⟨.vmem, 42, rfl⟩
abbrev cc2_stg0_1 : Ref sig .tc := ⟨.vmem, 43, rfl⟩
abbrev cc2_stg1_0 : Ref sig .tc := ⟨.vmem, 44, rfl⟩
abbrev cc2_stg1_1 : Ref sig .tc := ⟨.vmem, 45, rfl⟩
abbrev cc2_stg2_0 : Ref sig .tc := ⟨.vmem, 46, rfl⟩
abbrev cc2_stg3_0 : Ref sig .tc := ⟨.vmem, 47, rfl⟩
abbrev cc2_stg4_0 : Ref sig .tc := ⟨.vmem, 48, rfl⟩
abbrev cc2_stg5_0 : Ref sig .tc := ⟨.vmem, 49, rfl⟩
abbrev cc2_stg6_0 : Ref sig .tc := ⟨.vmem, 50, rfl⟩
abbrev cc2_stg7_0 : Ref sig .tc := ⟨.vmem, 51, rfl⟩
abbrev cc2_stg8_0 : Ref sig .tc := ⟨.vmem, 52, rfl⟩
abbrev cc2_stg9_0 : Ref sig .tc := ⟨.vmem, 53, rfl⟩
abbrev cc2_stg10_0 : Ref sig .tc := ⟨.vmem, 54, rfl⟩
abbrev cc2_stg11_0 : Ref sig .tc := ⟨.vmem, 55, rfl⟩
abbrev cc2_stg12_0 : Ref sig .tc := ⟨.vmem, 56, rfl⟩
abbrev cc2_stg13_0 : Ref sig .tc := ⟨.vmem, 57, rfl⟩
abbrev cc2_stg14_0 : Ref sig .tc := ⟨.vmem, 58, rfl⟩
abbrev cc2_stg15_0 : Ref sig .tc := ⟨.vmem, 59, rfl⟩
abbrev cc2_stg16_0 : Ref sig .tc := ⟨.vmem, 60, rfl⟩
abbrev cc2_stg17_0 : Ref sig .tc := ⟨.vmem, 61, rfl⟩
abbrev cc2_stg18_0 : Ref sig .tc := ⟨.vmem, 62, rfl⟩
abbrev cc2_stg19_0 : Ref sig .tc := ⟨.vmem, 63, rfl⟩
abbrev cc2_stg19_1 : Ref sig .tc := ⟨.vmem, 64, rfl⟩
abbrev cc2_scratch0 : Ref sig .tc := ⟨.vmem, 65, rfl⟩
abbrev cc2_scratch1 : Ref sig .tc := ⟨.vmem, 66, rfl⟩
abbrev cc2_scratch2 : Ref sig .tc := ⟨.vmem, 67, rfl⟩
abbrev cc2_scratch3 : Ref sig .tc := ⟨.vmem, 68, rfl⟩
abbrev cc2_scratch4 : Ref sig .tc := ⟨.vmem, 69, rfl⟩
abbrev cc2_scratch5 : Ref sig .tc := ⟨.vmem, 70, rfl⟩
abbrev cc2_scratch6 : Ref sig .tc := ⟨.vmem, 71, rfl⟩
abbrev cc2_scratch7 : Ref sig .tc := ⟨.vmem, 72, rfl⟩
abbrev cc3_stg0_0 : Ref sig .tc := ⟨.vmem, 73, rfl⟩
abbrev cc3_stg0_1 : Ref sig .tc := ⟨.vmem, 74, rfl⟩
abbrev cc3_stg1_0 : Ref sig .tc := ⟨.vmem, 75, rfl⟩
abbrev cc3_stg2_0 : Ref sig .tc := ⟨.vmem, 76, rfl⟩
abbrev cc3_stg3_0 : Ref sig .tc := ⟨.vmem, 77, rfl⟩
abbrev cc3_stg4_0 : Ref sig .tc := ⟨.vmem, 78, rfl⟩
abbrev cc3_stg5_0 : Ref sig .tc := ⟨.vmem, 79, rfl⟩
abbrev cc3_stg6_0 : Ref sig .tc := ⟨.vmem, 80, rfl⟩
abbrev cc3_stg7_0 : Ref sig .tc := ⟨.vmem, 81, rfl⟩
abbrev cc3_stg7_1 : Ref sig .tc := ⟨.vmem, 82, rfl⟩
abbrev cc3_scratch0 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc1_sem0_0 : DmaSem sig := 23
abbrev cc1_sem0_1 : DmaSem sig := 24
abbrev cc1_sem1_0 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem7_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem11_0 : DmaSem sig := 46
abbrev cc2_sem12_0 : DmaSem sig := 47
abbrev cc2_sem13_0 : DmaSem sig := 48
abbrev cc2_sem14_0 : DmaSem sig := 49
abbrev cc2_sem15_0 : DmaSem sig := 50
abbrev cc2_sem16_0 : DmaSem sig := 51
abbrev cc2_sem17_0 : DmaSem sig := 52
abbrev cc2_sem18_0 : DmaSem sig := 53
abbrev cc2_sem19_0 : DmaSem sig := 54
abbrev cc2_sem19_1 : DmaSem sig := 55
abbrev cc3_sem0_0 : DmaSem sig := 56
abbrev cc3_sem0_1 : DmaSem sig := 57
abbrev cc3_sem1_0 : DmaSem sig := 58
abbrev cc3_sem2_0 : DmaSem sig := 59
abbrev cc3_sem3_0 : DmaSem sig := 60
abbrev cc3_sem4_0 : DmaSem sig := 61
abbrev cc3_sem5_0 : DmaSem sig := 62
abbrev cc3_sem6_0 : DmaSem sig := 63
abbrev cc3_sem7_0 : DmaSem sig := 64
abbrev cc3_sem7_1 : DmaSem sig := 65

abbrev nD : Nat := 1
abbrev τ : Topo := Topo.v7x

variable {F : FTy → Type} [FloatOps F]

abbrev grid0 : Pipeline.Grid := ⟨1, ![258], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c255_i32 : BitVec 32 := 255#32
  let v1 : BitVec 32 := Scalar.maxsi c0_i32_0 v0
  let v2 : BitVec 32 := Scalar.minsi c255_i32 v1
  let c32_i32 : BitVec 32 := 32#32
  let v3 : BitVec 32 := Scalar.divsi v2 c32_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c32_i32 c0_i32_3
  let v10 : BitVec 32 := Scalar.extui v9
  let c0_i32_4 : BitVec 32 := 0#32
  let v11 : BitVec 1 := Scalar.cmpi .slt c32_i32 c0_i32_4
  let v12 : BitVec 32 := Scalar.extui v11
  let v13 : BitVec 32 := Scalar.subi v10 v12
  let v14 : BitVec 1 := Scalar.cmpi .ne v8 v13
  let v15 : BitVec 32 := Scalar.remsi v2 c32_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c32_i32_6 : BitVec 32 := 32#32
  let c0_i32_7 : BitVec 32 := 0#32
  let v20 : BitVec 1 := Scalar.cmpi .eq c32_i32_6 c0_i32_7
  let c1_i32_8 : BitVec 32 := 1#32
  let v21 : BitVec 32 := Scalar.select v20 c1_i32_8 c32_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c255_i32 : BitVec 32 := 255#32
  let v1 : BitVec 32 := Scalar.maxsi c0_i32 v0
  let v2 : BitVec 32 := Scalar.minsi c255_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c255_i32 : BitVec 32 := 255#32
  let v1 : BitVec 32 := Scalar.maxsi c0_i32 v0
  let v2 : BitVec 32 := Scalar.minsi c255_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2944 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4x128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024x5376 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x3x2688 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1x2688 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x2688x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![258], ![false]⟩

def cc2_transform_0 (i : grid2.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c255_i32 : BitVec 32 := 255#32
  let v1 : BitVec 32 := Scalar.maxsi c0_i32_0 v0
  let v2 : BitVec 32 := Scalar.minsi c255_i32 v1
  let c32_i32 : BitVec 32 := 32#32
  let v3 : BitVec 32 := Scalar.divsi v2 c32_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c32_i32 c0_i32_3
  let v10 : BitVec 32 := Scalar.extui v9
  let c0_i32_4 : BitVec 32 := 0#32
  let v11 : BitVec 1 := Scalar.cmpi .slt c32_i32 c0_i32_4
  let v12 : BitVec 32 := Scalar.extui v11
  let v13 : BitVec 32 := Scalar.subi v10 v12
  let v14 : BitVec 1 := Scalar.cmpi .ne v8 v13
  let v15 : BitVec 32 := Scalar.remsi v2 c32_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c32_i32_6 : BitVec 32 := 32#32
  let c0_i32_7 : BitVec 32 := 0#32
  let v20 : BitVec 1 := Scalar.cmpi .eq c32_i32_6 c0_i32_7
  let c1_i32_8 : BitVec 32 := 1#32
  let v21 : BitVec 32 := Scalar.select v20 c1_i32_8 c32_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc2_transform_1 (i : grid2.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c255_i32 : BitVec 32 := 255#32
  let v1 : BitVec 32 := Scalar.maxsi c0_i32 v0
  let v2 : BitVec 32 := Scalar.minsi c255_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_5 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_6 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_9 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_10 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_11 (i : grid2.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc2_transform_12 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_13 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_14 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_15 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_16 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_17 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_18 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_19 (i : grid2.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c255_i32 : BitVec 32 := 255#32
  let v1 : BitVec 32 := Scalar.maxsi c0_i32 v0
  let v2 : BitVec 32 := Scalar.minsi c255_i32 v1
  let c32_i32 : BitVec 32 := 32#32
  let v3 : BitVec 32 := Scalar.divsi v2 c32_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let c0_i32_6 : BitVec 32 := 0#32
  let v20 : BitVec 1 := Scalar.cmpi .eq c32_i32_5 c0_i32_6
  let c1_i32_7 : BitVec 32 := 1#32
  let v21 : BitVec 32 := Scalar.select v20 c1_i32_7 c32_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1024x2944 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x4x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x4x128x256 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x1x512 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x128x128 .bf16 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x1x256 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S1x1024x1024 .bf16 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 2 → Memref sig .tc .vmem S1x256x1024 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev grid3 : Pipeline.Grid := ⟨2, ![8, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x1024x5376 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x3x2688 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1x2688 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x2688x1024 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x512x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]
-- ==== Kernel2.lean ====
abbrev S8x8192x1024 : Shape := ⟨3, ![8, 8192, 1024]⟩
abbrev S2x1024 : Shape := ⟨2, ![2, 1024]⟩
abbrev S2x1024x2688 : Shape := ⟨3, ![2, 1024, 2688]⟩
abbrev S2x3x2688 : Shape := ⟨3, ![2, 3, 2688]⟩
abbrev S2x2688 : Shape := ⟨2, ![2, 2688]⟩
abbrev S2x2688x1024 : Shape := ⟨3, ![2, 2688, 1024]⟩
abbrev S1024 : Shape := ⟨1, ![1024]⟩
abbrev S2x1x1024 : Shape := ⟨3, ![2, 1, 1024]⟩
abbrev S2x1024x5376 : Shape := ⟨3, ![2, 1024, 5376]⟩
abbrev S2x1x2688 : Shape := ⟨3, ![2, 1, 2688]⟩
abbrev S1x1024 : Shape := ⟨2, ![1, 1024]⟩
abbrev S1x512x1024 : Shape := ⟨3, ![1, 512, 1024]⟩
abbrev S1x1x1024 : Shape := ⟨3, ![1, 1, 1024]⟩
abbrev S1x1024x5376 : Shape := ⟨3, ![1, 1024, 5376]⟩
abbrev S1x3x2688 : Shape := ⟨3, ![1, 3, 2688]⟩
abbrev S1x1x2688 : Shape := ⟨3, ![1, 1, 2688]⟩
abbrev S1x2688x1024 : Shape := ⟨3, ![1, 2688, 1024]⟩
abbrev S520x2688 : Shape := ⟨2, ![520, 2688]⟩
abbrev S8x2688 : Shape := ⟨2, ![8, 2688]⟩
abbrev S512x1024 : Shape := ⟨2, ![512, 1024]⟩
abbrev S512 : Shape := ⟨1, ![512]⟩
abbrev S512x1 : Shape := ⟨2, ![512, 1]⟩
abbrev S1024x5376 : Shape := ⟨2, ![1024, 5376]⟩
abbrev S512x5376 : Shape := ⟨2, ![512, 5376]⟩
abbrev S512x2688 : Shape := ⟨2, ![512, 2688]⟩
abbrev S3x2688 : Shape := ⟨2, ![3, 2688]⟩
abbrev S1x2688 : Shape := ⟨2, ![1, 2688]⟩
abbrev S2688x1024 : Shape := ⟨2, ![2688, 1024]⟩

abbrev nBuf : Space → Nat
  | .hbm => 15
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S2x1024, .f32⟩
  | .hbm, ⟨2, _⟩ => ⟨S2x1024x2688, .f32⟩
  | .hbm, ⟨3, _⟩ => ⟨S2x1024x2688, .f32⟩
  | .hbm, ⟨4, _⟩ => ⟨S2x3x2688, .f32⟩
  | .hbm, ⟨5, _⟩ => ⟨S2x2688, .f32⟩
  | .hbm, ⟨6, _⟩ => ⟨S2x2688x1024, .f32⟩
  | .hbm, ⟨7, _⟩ => ⟨S1024, .f32⟩
  | .hbm, ⟨8, _⟩ => ⟨S2x1x1024, .f32⟩
  | .hbm, ⟨9, _⟩ => ⟨S2x1024x5376, .f32⟩
  | .hbm, ⟨10, _⟩ => ⟨S2x1024x5376, .bf16⟩
  | .hbm, ⟨11, _⟩ => ⟨S2x1x2688, .f32⟩
  | .hbm, ⟨12, _⟩ => ⟨S2x2688x1024, .bf16⟩
  | .hbm, ⟨13, _⟩ => ⟨S1x1024, .f32⟩
  | .hbm, ⟨14, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x5376, .bf16⟩
  | .local _ .vmem, ⟨4, _⟩ => ⟨S1x3x2688, .f32⟩
  | .local _ .vmem, ⟨5, _⟩ => ⟨S1x1x2688, .f32⟩
  | .local _ .vmem, ⟨6, _⟩ => ⟨S1x2688x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S520x2688, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2688x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x8192x1024 : Shape := ⟨3, ![8, 8192, 1024]⟩
abbrev S2x1024 : Shape := ⟨2, ![2, 1024]⟩
abbrev S2x1024x2688 : Shape := ⟨3, ![2, 1024, 2688]⟩
abbrev S2x3x2688 : Shape := ⟨3, ![2, 3, 2688]⟩
abbrev S2x2688 : Shape := ⟨2, ![2, 2688]⟩
abbrev S2x2688x1024 : Shape := ⟨3, ![2, 2688, 1024]⟩
abbrev S1024 : Shape := ⟨1, ![1024]⟩
abbrev S1x1024 : Shape := ⟨2, ![1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024x2688 : Shape := ⟨3, ![1, 1024, 2688]⟩
abbrev S1024x2688 : Shape := ⟨2, ![1024, 2688]⟩
abbrev S8x8192x2688 : Shape := ⟨3, ![8, 8192, 2688]⟩
abbrev S1x3x2688 : Shape := ⟨3, ![1, 3, 2688]⟩
abbrev S3x2688 : Shape := ⟨2, ![3, 2688]⟩
abbrev S1x2688 : Shape := ⟨2, ![1, 2688]⟩
abbrev S2688 : Shape := ⟨1, ![2688]⟩
abbrev S8x8194x2688 : Shape := ⟨3, ![8, 8194, 2688]⟩
abbrev S1x1x2688 : Shape := ⟨3, ![1, 1, 2688]⟩
abbrev S1x2688x1024 : Shape := ⟨3, ![1, 2688, 1024]⟩
abbrev S2688x1024 : Shape := ⟨2, ![2688, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S2x1024, .f32⟩
  | .hbm, ⟨2, _⟩ => ⟨S2x1024x2688, .f32⟩
  | .hbm, ⟨3, _⟩ => ⟨S2x1024x2688, .f32⟩
  | .hbm, ⟨4, _⟩ => ⟨S2x3x2688, .f32⟩
  | .hbm, ⟨5, _⟩ => ⟨S2x2688, .f32⟩
  | .hbm, ⟨6, _⟩ => ⟨S2x2688x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S1x1024x2688, .f32⟩
  | .hbm, ⟨27, _⟩ => ⟨S1024x2688, .f32⟩
  | .hbm, ⟨28, _⟩ => ⟨S8x8192x2688, .f32⟩
  | .hbm, ⟨29, _⟩ => ⟨S1x3x2688, .f32⟩
  | .hbm, ⟨30, _⟩ => ⟨S3x2688, .f32⟩
  | .hbm, ⟨31, _⟩ => ⟨S1x2688, .f32⟩
  | .hbm, ⟨32, _⟩ => ⟨S2688, .f32⟩
  | .hbm, ⟨33, _⟩ => ⟨S_, .i32⟩
  | .hbm, ⟨34, _⟩ => ⟨S_, .f32⟩
  | .hbm, ⟨35, _⟩ => ⟨S8x8194x2688, .f32⟩
  | .hbm, ⟨36, _⟩ => ⟨S8x8192x2688, .f32⟩
  | .hbm, ⟨37, _⟩ => ⟨S1x2688, .f32⟩
  | .hbm, ⟨38, _⟩ => ⟨S2688, .f32⟩
  | .hbm, ⟨39, _⟩ => ⟨S1x1x2688, .f32⟩
  | .hbm, ⟨40, _⟩ => ⟨S8x8192x2688, .f32⟩
  | .hbm, ⟨41, _⟩ => ⟨S8x8192x2688, .f32⟩
  | .hbm, ⟨42, _⟩ => ⟨S1x1x2688, .f32⟩
  | .hbm, ⟨43, _⟩ => ⟨S8x8192x2688, .f32⟩
  | .hbm, ⟨44, _⟩ => ⟨S8x8192x2688, .f32⟩
  | .hbm, ⟨45, _⟩ => ⟨S8x8192x2688, .f32⟩
  | .hbm, ⟨46, _⟩ => ⟨S1x2688, .f32⟩
  | .hbm, ⟨47, _⟩ => ⟨S2688, .f32⟩
  | .hbm, ⟨48, _⟩ => ⟨S1x1x2688, .f32⟩
  | .hbm, ⟨49, _⟩ => ⟨S8x8192x2688, .f32⟩
  | .hbm, ⟨50, _⟩ => ⟨S8x8192x2688, .f32⟩
  | .hbm, ⟨51, _⟩ => ⟨S8x8192x2688, .f32⟩
  | .hbm, ⟨52, _⟩ => ⟨S8x8192x2688, .f32⟩
  | .hbm, ⟨53, _⟩ => ⟨S1x2688, .f32⟩
  | .hbm, ⟨54, _⟩ => ⟨S2688, .f32⟩
  | .hbm, ⟨55, _⟩ => ⟨S1x1x2688, .f32⟩
  | .hbm, ⟨56, _⟩ => ⟨S8x8192x2688, .f32⟩
  | .hbm, ⟨57, _⟩ => ⟨S8x8192x2688, .f32⟩
  | .hbm, ⟨58, _⟩ => ⟨S8x8192x2688, .f32⟩
  | .hbm, ⟨59, _⟩ => ⟨S8x8192x2688, .f32⟩
  | .hbm, ⟨60, _⟩ => ⟨S8x8192x2688, .f32⟩
  | .hbm, ⟨61, _⟩ => ⟨S_, .f32⟩
  | .hbm, ⟨62, _⟩ => ⟨S8x8192x2688, .f32⟩
  | .hbm, ⟨63, _⟩ => ⟨S8x8192x2688, .f32⟩
  | .hbm, ⟨64, _⟩ => ⟨S8x8192x2688, .f32⟩
  | .hbm, ⟨65, _⟩ => ⟨S_, .f32⟩
  | .hbm, ⟨66, _⟩ => ⟨S8x8192x2688, .f32⟩
  | .hbm, ⟨67, _⟩ => ⟨S8x8192x2688, .f32⟩
  | .hbm, ⟨68, _⟩ => ⟨S8x8192x2688, .f32⟩
  | .hbm, ⟨69, _⟩ => ⟨S_, .f32⟩
  | .hbm, ⟨70, _⟩ => ⟨S8x8192x2688, .f32⟩
  | .hbm, ⟨71, _⟩ => ⟨S8x8192x2688, .f32⟩
  | .hbm, ⟨72, _⟩ => ⟨S_, .f32⟩
  | .hbm, ⟨73, _⟩ => ⟨S8x8192x2688, .f32⟩
  | .hbm, ⟨74, _⟩ => ⟨S8x8192x2688, .f32⟩
  | .hbm, ⟨75, _⟩ => ⟨S8x8192x2688, .f32⟩
  | .hbm, ⟨76, _⟩ => ⟨S1x1024x2688, .f32⟩
  | .hbm, ⟨77, _⟩ => ⟨S1024x2688, .f32⟩
  | .hbm, ⟨78, _⟩ => ⟨S8x8192x2688, .f32⟩
  | .hbm, ⟨79, _⟩ => ⟨S8x8192x2688, .f32⟩
  | .hbm, ⟨80, _⟩ => ⟨S1x2688x1024, .f32⟩
  | .hbm, ⟨81, _⟩ => ⟨S2688x1024, .f32⟩
  | .hbm, ⟨82, _⟩ => ⟨S8x8192x1024, .f32⟩
  | .hbm, ⟨83, _⟩ => ⟨S8x8192x1024, .f32⟩
  | .hbm, ⟨84, _⟩ => ⟨S8x8192x1024, .f32⟩
  | .hbm, ⟨85, _⟩ => ⟨S_, .f32⟩
  | .hbm, ⟨86, _⟩ => ⟨S8x8192, .f32⟩
  | .hbm, ⟨87, _⟩ => ⟨S8x8192x1, .f32⟩
  | .hbm, ⟨88, _⟩ => ⟨S_, .f32⟩
  | .hbm, ⟨89, _⟩ => ⟨S8x8192x1, .f32⟩
  | .hbm, ⟨90, _⟩ => ⟨S8x8192x1, .f32⟩
  | .hbm, ⟨91, _⟩ => ⟨S_, .f32⟩
  | .hbm, ⟨92, _⟩ => ⟨S8x8192x1, .f32⟩
  | .hbm, ⟨93, _⟩ => ⟨S8x8192x1, .f32⟩
  | .hbm, ⟨94, _⟩ => ⟨S8x8192x1, .f32⟩
  | .hbm, ⟨95, _⟩ => ⟨S8x8192x1024, .f32⟩
  | .hbm, ⟨96, _⟩ => ⟨S8x8192x1024, .f32⟩
  | .hbm, ⟨97, _⟩ => ⟨S1x1x1024, .f32⟩
  | .hbm, ⟨98, _⟩ => ⟨S8x8192x1024, .f32⟩
  | .hbm, ⟨99, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_6 : Ref sig .tc := ⟨.hbm, 85, rfl⟩
abbrev main_v68 : Ref sig .tc := ⟨.hbm, 86, rfl⟩
abbrev main_v69 : Ref sig .tc := ⟨.hbm, 87, rfl⟩
abbrev main_cst_7 : Ref sig .tc := ⟨.hbm, 88, rfl⟩
abbrev main_v70 : Ref sig .tc := ⟨.hbm, 89, rfl⟩
abbrev main_v71 : Ref sig .tc := ⟨.hbm, 90, rfl⟩
abbrev main_cst_8 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== Kernel3.lean ====
abbrev S8x8192x1024 : Shape := ⟨3, ![8, 8192, 1024]⟩
abbrev S2x1024 : Shape := ⟨2, ![2, 1024]⟩
abbrev S2x1024x2688 : Shape := ⟨3, ![2, 1024, 2688]⟩
abbrev S2x3x2688 : Shape := ⟨3, ![2, 3, 2688]⟩
abbrev S2x2688 : Shape := ⟨2, ![2, 2688]⟩
abbrev S2x2688x1024 : Shape := ⟨3, ![2, 2688, 1024]⟩
abbrev S1024 : Shape := ⟨1, ![1024]⟩
abbrev S2x1x1024 : Shape := ⟨3, ![2, 1, 1024]⟩
abbrev S2x1024x5376 : Shape := ⟨3, ![2, 1024, 5376]⟩
abbrev S2x1x2688 : Shape := ⟨3, ![2, 1, 2688]⟩
abbrev S1x1024 : Shape := ⟨2, ![1, 1024]⟩
abbrev S1x512x1024 : Shape := ⟨3, ![1, 512, 1024]⟩
abbrev S1x1x1024 : Shape := ⟨3, ![1, 1, 1024]⟩
abbrev S1x1024x5376 : Shape := ⟨3, ![1, 1024, 5376]⟩
abbrev S1x3x2688 : Shape := ⟨3, ![1, 3, 2688]⟩
abbrev S1x1x2688 : Shape := ⟨3, ![1, 1, 2688]⟩
abbrev S1x2688x1024 : Shape := ⟨3, ![1, 2688, 1024]⟩
abbrev S520x2688 : Shape := ⟨2, ![520, 2688]⟩
abbrev S8x2688 : Shape := ⟨2, ![8, 2688]⟩
abbrev S512x1024 : Shape := ⟨2, ![512, 1024]⟩
abbrev S512 : Shape := ⟨1, ![512]⟩
abbrev S512x1 : Shape := ⟨2, ![512, 1]⟩
abbrev S1024x5376 : Shape := ⟨2, ![1024, 5376]⟩
abbrev S512x5376 : Shape := ⟨2, ![512, 5376]⟩
abbrev S512x2688 : Shape := ⟨2, ![512, 2688]⟩
abbrev S3x2688 : Shape := ⟨2, ![3, 2688]⟩
abbrev S1x2688 : Shape := ⟨2, ![1, 2688]⟩
abbrev S2688x1024 : Shape := ⟨2, ![2688, 1024]⟩

abbrev nBuf : Space → Nat
  | .hbm => 15
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S2x1024, .f32⟩
  | .hbm, ⟨2, _⟩ => ⟨S2x1024x2688, .f32⟩
  | .hbm, ⟨3, _⟩ => ⟨S2x1024x2688, .f32⟩
  | .hbm, ⟨4, _⟩ => ⟨S2x3x2688, .f32⟩
  | .hbm, ⟨5, _⟩ => ⟨S2x2688, .f32⟩
  | .hbm, ⟨6, _⟩ => ⟨S2x2688x1024, .f32⟩
  | .hbm, ⟨7, _⟩ => ⟨S1024, .f32⟩
  | .hbm, ⟨8, _⟩ => ⟨S2x1x1024, .f32⟩
  | .hbm, ⟨9, _⟩ => ⟨S2x1024x5376, .f32⟩
  | .hbm, ⟨10, _⟩ => ⟨S2x1024x5376, .bf16⟩
  | .hbm, ⟨11, _⟩ => ⟨S2x1x2688, .f32⟩
  | .hbm, ⟨12, _⟩ => ⟨S2x2688x1024, .bf16⟩
  | .hbm, ⟨13, _⟩ => ⟨S1x1024, .f32⟩
  | .hbm, ⟨14, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1024x5376, .bf16⟩
  | .local _ .vmem, ⟨4, _⟩ => ⟨S1x3x2688, .f32⟩
  | .local _ .vmem, ⟨5, _⟩ => ⟨S1x1x2688, .f32⟩
  | .local _ .vmem, ⟨6, _⟩ => ⟨S1x2688x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S520x2688, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x5376 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2688x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x8192x1024 : Shape := ⟨3, ![8, 8192, 1024]⟩
abbrev S2x1024 : Shape := ⟨2, ![2, 1024]⟩
abbrev S2x1024x2688 : Shape := ⟨3, ![2, 1024, 2688]⟩
abbrev S2x3x2688 : Shape := ⟨3, ![2, 3, 2688]⟩
abbrev S2x2688 : Shape := ⟨2, ![2, 2688]⟩
abbrev S2x2688x1024 : Shape := ⟨3, ![2, 2688, 1024]⟩
abbrev S1024 : Shape := ⟨1, ![1024]⟩
abbrev S1x1024 : Shape := ⟨2, ![1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024x2688 : Shape := ⟨3, ![1, 1024, 2688]⟩
abbrev S1024x2688 : Shape := ⟨2, ![1024, 2688]⟩
abbrev S8x8192x2688 : Shape := ⟨3, ![8, 8192, 2688]⟩
abbrev S1x3x2688 : Shape := ⟨3, ![1, 3, 2688]⟩
abbrev S3x2688 : Shape := ⟨2, ![3, 2688]⟩
abbrev S1x2688 : Shape := ⟨2, ![1, 2688]⟩
abbrev S2688 : Shape := ⟨1, ![2688]⟩
abbrev S8x8194x2688 : Shape := ⟨3, ![8, 8194, 2688]⟩
abbrev S1x1x2688 : Shape := ⟨3, ![1, 1, 2688]⟩
abbrev S1x2688x1024 : Shape := ⟨3, ![1, 2688, 1024]⟩
abbrev S2688x1024 : Shape := ⟨2, ![2688, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S2x1024, .f32⟩
  | .hbm, ⟨2, _⟩ => ⟨S2x1024x2688, .f32⟩
  | .hbm, ⟨3, _⟩ => ⟨S2x1024x2688, .f32⟩
  | .hbm, ⟨4, _⟩ => ⟨S2x3x2688, .f32⟩
  | .hbm, ⟨5, _⟩ => ⟨S2x2688, .f32⟩
  | .hbm, ⟨6, _⟩ => ⟨S2x2688x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S1x1024x2688, .f32⟩
  | .hbm, ⟨27, _⟩ => ⟨S1024x2688, .f32⟩
  | .hbm, ⟨28, _⟩ => ⟨S8x8192x2688, .f32⟩
  | .hbm, ⟨29, _⟩ => ⟨S1x3x2688, .f32⟩
  | .hbm, ⟨30, _⟩ => ⟨S3x2688, .f32⟩
  | .hbm, ⟨31, _⟩ => ⟨S1x2688, .f32⟩
  | .hbm, ⟨32, _⟩ => ⟨S2688, .f32⟩
  | .hbm, ⟨33, _⟩ => ⟨S_, .i32⟩
  | .hbm, ⟨34, _⟩ => ⟨S_, .f32⟩
  | .hbm, ⟨35, _⟩ => ⟨S8x8194x2688, .f32⟩
  | .hbm, ⟨36, _⟩ => ⟨S8x8192x2688, .f32⟩
  | .hbm, ⟨37, _⟩ => ⟨S1x2688, .f32⟩
  | .hbm, ⟨38, _⟩ => ⟨S2688, .f32⟩
  | .hbm, ⟨39, _⟩ => ⟨S1x1x2688, .f32⟩
  | .hbm, ⟨40, _⟩ => ⟨S8x8192x2688, .f32⟩
  | .hbm, ⟨41, _⟩ => ⟨S8x8192x2688, .f32⟩
  | .hbm, ⟨42, _⟩ => ⟨S1x1x2688, .f32⟩
  | .hbm, ⟨43, _⟩ => ⟨S8x8192x2688, .f32⟩
  | .hbm, ⟨44, _⟩ => ⟨S8x8192x2688, .f32⟩
  | .hbm, ⟨45, _⟩ => ⟨S8x8192x2688, .f32⟩
  | .hbm, ⟨46, _⟩ => ⟨S1x2688, .f32⟩
  | .hbm, ⟨47, _⟩ => ⟨S2688, .f32⟩
  | .hbm, ⟨48, _⟩ => ⟨S1x1x2688, .f32⟩
  | .hbm, ⟨49, _⟩ => ⟨S8x8192x2688, .f32⟩
  | .hbm, ⟨50, _⟩ => ⟨S8x8192x2688, .f32⟩
  | .hbm, ⟨51, _⟩ => ⟨S8x8192x2688, .f32⟩
  | .hbm, ⟨52, _⟩ => ⟨S8x8192x2688, .f32⟩
  | .hbm, ⟨53, _⟩ => ⟨S1x2688, .f32⟩
  | .hbm, ⟨54, _⟩ => ⟨S2688, .f32⟩
  | .hbm, ⟨55, _⟩ => ⟨S1x1x2688, .f32⟩
  | .hbm, ⟨56, _⟩ => ⟨S8x8192x2688, .f32⟩
  | .hbm, ⟨57, _⟩ => ⟨S8x8192x2688, .f32⟩
  | .hbm, ⟨58, _⟩ => ⟨S8x8192x2688, .f32⟩
  | .hbm, ⟨59, _⟩ => ⟨S8x8192x2688, .f32⟩
  | .hbm, ⟨60, _⟩ => ⟨S8x8192x2688, .f32⟩
  | .hbm, ⟨61, _⟩ => ⟨S_, .f32⟩
  | .hbm, ⟨62, _⟩ => ⟨S8x8192x2688, .f32⟩
  | .hbm, ⟨63, _⟩ => ⟨S8x8192x2688, .f32⟩
  | .hbm, ⟨64, _⟩ => ⟨S8x8192x2688, .f32⟩
  | .hbm, ⟨65, _⟩ => ⟨S_, .f32⟩
  | .hbm, ⟨66, _⟩ => ⟨S8x8192x2688, .f32⟩
  | .hbm, ⟨67, _⟩ => ⟨S8x8192x2688, .f32⟩
  | .hbm, ⟨68, _⟩ => ⟨S8x8192x2688, .f32⟩
  | .hbm, ⟨69, _⟩ => ⟨S_, .f32⟩
  | .hbm, ⟨70, _⟩ => ⟨S8x8192x2688, .f32⟩
  | .hbm, ⟨71, _⟩ => ⟨S8x8192x2688, .f32⟩
  | .hbm, ⟨72, _⟩ => ⟨S_, .f32⟩
  | .hbm, ⟨73, _⟩ => ⟨S8x8192x2688, .f32⟩
  | .hbm, ⟨74, _⟩ => ⟨S8x8192x2688, .f32⟩
  | .hbm, ⟨75, _⟩ => ⟨S8x8192x2688, .f32⟩
  | .hbm, ⟨76, _⟩ => ⟨S1x1024x2688, .f32⟩
  | .hbm, ⟨77, _⟩ => ⟨S1024x2688, .f32⟩
  | .hbm, ⟨78, _⟩ => ⟨S8x8192x2688, .f32⟩
  | .hbm, ⟨79, _⟩ => ⟨S8x8192x2688, .f32⟩
  | .hbm, ⟨80, _⟩ => ⟨S1x2688x1024, .f32⟩
  | .hbm, ⟨81, _⟩ => ⟨S2688x1024, .f32⟩
  | .hbm, ⟨82, _⟩ => ⟨S8x8192x1024, .f32⟩
  | .hbm, ⟨83, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Proof.Ffn.Spec.lean ====
module

public import Idealize.ShloMosaic.Lib.Pointwise

@[expose] public section

set_option maxRecDepth 16384

noncomputable section

namespace Cert.Ffn

open Idealize.ShloMosaic

/-- The factor the normalisation of a row `v` multiplies by: one over the root of the mean square plus a constant. -/
def rinv (v : Fin 1024 → EReal) : EReal :=
  Ideal.rsqrt (Ideal.div (∑ x, v x * v x) (Ideal.ofBits FTy.f32 1149239296#32) + Ideal.ofBits FTy.f32 897988541#32)

/-- The gate's activation: half of `c`, times one plus a tanh of a cubic in `c`. -/
def gel (c : EReal) : EReal :=
  c * (Ideal.ofBits FTy.f32 1056964608#32 *
    (1 + Ideal.tanh (Ideal.ofBits FTy.f32 1061962282#32 * (c + Ideal.ofBits FTy.f32 1027024659#32 * (c * (c * c))))))

/-- A normalised row projected on one column, the row's factor taken out of the sum. -/
def proj (v w u : Fin 1024 → EReal) : EReal := (∑ x, v x * w x * u x) * rinv v

theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- One over the root of a positive number is neither negative nor infinite. -/
theorem rsqrt_bounds {x : EReal} (h : 0 < x) : 0 ≤ Ideal.rsqrt x ∧ Ideal.rsqrt x ≠ ⊤ := by
  induction x using EReal.rec with
  | bot => exact absurd h (by simp)
  | top => simp
  | coe r =>
    have hr : 0 < r := by exact_mod_cast h
    rw [Ideal.rsqrt_coe, if_neg (not_lt.mpr hr.le), if_neg hr.ne']
    exact ⟨by exact_mod_cast inv_nonneg.mpr (Real.sqrt_nonneg r), EReal.coe_ne_top _⟩

theorem width_eq : Ideal.ofBits FTy.f32 1149239296#32 = ((1024 : ℝ) : EReal) := by
  simp [Ideal.ofBits, Ideal.ieee, -EReal.coe_mul]; norm_num

theorem eps_pos : 0 < Ideal.ofBits FTy.f32 897988541#32 := by
  simp [Ideal.ofBits, Ideal.ieee, -EReal.coe_mul]

theorem rinv_bounds (v : Fin 1024 → EReal) : 0 ≤ rinv v ∧ rinv v ≠ ⊤ := by
  refine rsqrt_bounds ?_
  rw [width_eq, Ideal.div_coe (by norm_num)]
  have h1 : 0 ≤ ∑ x, v x * v x := Finset.sum_nonneg fun x _ => square_nonneg _
  have h2 : (0 : EReal) ≤ ((1 / 1024 : ℝ) : EReal) := by exact_mod_cast (by norm_num : (0 : ℝ) ≤ 1 / 1024)
  exact lt_of_lt_of_le eps_pos (le_add_of_nonneg_left (mul_nonneg h1 h2))

/-- A factor that is neither negative nor infinite goes into a sum. -/
theorem sum_mul_of_bounds {ι : Type} (s : Finset ι) (f : ι → EReal) {r : EReal} (h0 : 0 ≤ r) (h1 : r ≠ ⊤) :
    (∑ x ∈ s, f x) * r = ∑ x ∈ s, f x * r := by
  classical
  induction s using Finset.induction_on with
  | empty => simp
  | insert a s ha ih =>
    rw [Finset.sum_insert ha, Finset.sum_insert ha, EReal.right_distrib_of_nonneg_of_ne_top h0 h1, ih]

/-- The projection with the row's factor inside the sum. -/
theorem proj_eq (v w u : Fin 1024 → EReal) : ∑ x, v x * rinv v * w x * u x = proj v w u := by
  rw [proj, sum_mul_of_bounds _ _ (rinv_bounds v).1 (rinv_bounds v).2]
  exact Finset.sum_congr rfl fun x _ => by ac_rfl

/-- A projection of equal rows, weights and columns. -/
theorem proj_congr {v v' w w' u u' : Fin 1024 → EReal} (hv : ∀ x, v x = v' x) (hw : ∀ x, w x = w' x) (hu : ∀ x, u x = u' x) :
    proj v w u = proj v' w' u' := by
  rw [funext hv, funext hw, funext hu]

theorem zero_eq : (FloatOps.ofBits .f32 0#32 : Ideal .f32) = (0 : EReal) := by
  show Ideal.ofBits .f32 0#32 = 0
  simp [Ideal.ofBits, Ideal.ieee]

/-- The projected row of layer `l` at position `t` of sequence `b`. -/
def pre (l : Fin 2) (X : FVec Ideal ⟨3, ![8, 8192, 1024]⟩ .f32) (NF : FVec Ideal ⟨2, ![2, 1024]⟩ .f32)
    (W : FVec Ideal ⟨3, ![2, 1024, 2688]⟩ .f32) (b : Fin 8) (t : Fin 8192) (j : Fin 2688) : EReal :=
  proj (fun x => X (ix3 b t x)) (fun x => NF (ix2 l x)) (fun x => W (ix3 l x j))

/-- The projection `k` positions before `t`, and zero before the sequence begins. -/
def back (l : Fin 2) (X : FVec Ideal ⟨3, ![8, 8192, 1024]⟩ .f32) (NF : FVec Ideal ⟨2, ![2, 1024]⟩ .f32)
    (W : FVec Ideal ⟨3, ![2, 1024, 2688]⟩ .f32) (k : ℕ) (b : Fin 8) (t : Fin 8192) (j : Fin 2688) : EReal :=
  if t.val < k then 0 else pre l X NF W b ⟨t.val - k, by omega⟩ j

/-- The gate before its activation: the bias and three positions of the projection, weighted. -/
def gate (l : Fin 2) (X : FVec Ideal ⟨3, ![8, 8192, 1024]⟩ .f32) (NF : FVec Ideal ⟨2, ![2, 1024]⟩ .f32)
    (WG : FVec Ideal ⟨3, ![2, 1024, 2688]⟩ .f32) (CW : FVec Ideal ⟨3, ![2, 3, 2688]⟩ .f32)
    (CB : FVec Ideal ⟨2, ![2, 2688]⟩ .f32) (b : Fin 8) (t : Fin 8192) (j : Fin 2688) : EReal :=
  CB (ix2 l j) + pre l X NF WG b t j * CW (ix3 l 2 j) + back l X NF WG 2 b t j * CW (ix3 l 0 j)
    + back l X NF WG 1 b t j * CW (ix3 l 1 j)

/-- The row after the block, before its last normalisation. -/
def row (l : Fin 2) (X : FVec Ideal ⟨3, ![8, 8192, 1024]⟩ .f32) (NF : FVec Ideal ⟨2, ![2, 1024]⟩ .f32)
    (WG WV : FVec Ideal ⟨3, ![2, 1024, 2688]⟩ .f32) (CW : FVec Ideal ⟨3, ![2, 3, 2688]⟩ .f32)
    (CB : FVec Ideal ⟨2, ![2, 2688]⟩ .f32) (WD : FVec Ideal ⟨3, ![2, 2688, 1024]⟩ .f32)
    (b : Fin 8) (t : Fin 8192) (d : Fin 1024) : EReal :=
  X (ix3 b t d) + ∑ j : Fin 2688, gel (gate l X NF WG CW CB b t j) * pre l X NF WV b t j * WD (ix3 l j d)

/-- The last layer's output, normalised. -/
def out (X : FVec Ideal ⟨3, ![8, 8192, 1024]⟩ .f32) (NF : FVec Ideal ⟨2, ![2, 1024]⟩ .f32)
    (WG WV : FVec Ideal ⟨3, ![2, 1024, 2688]⟩ .f32) (CW : FVec Ideal ⟨3, ![2, 3, 2688]⟩ .f32)
    (CB : FVec Ideal ⟨2, ![2, 2688]⟩ .f32) (WD : FVec Ideal ⟨3, ![2, 2688, 1024]⟩ .f32)
    (NO : FVec Ideal ⟨1, ![1024]⟩ .f32) (b : Fin 8) (t : Fin 8192) (d : Fin 1024) : EReal :=
  row 1 X NF WG WV CW CB WD b t d * rinv (row 1 X NF WG WV CW CB WD b t) * NO (ix1 d)

end Cert.Ffn
end
-- ==== Proof.Ffn.Pure.lean ====
module

public import proofs.«01_k».proof.Proof.Gen.Kernel2Ideal.Skeleton
public import proofs.«01_k».proof.Proof.Ffn.Spec

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- The two projections side by side: the block's rows, weighted, on column `j`. -/
theorem pay4_at (v3 : FVec Ideal S1x512x1024 .f32) (v13 : FVec Ideal S1x1x1024 .f32) (v18 : FVec Ideal S1x1024x5376 .bf16)
    (r : Fin 512) (j : Fin 5376) : k0_pay4 (F := Ideal) v3 v13 v18 (ix2 r j)
      = Cert.Ffn.proj (fun x => v3 (ix3 0 r x)) (fun x => v13 (ix3 0 0 x)) (fun x => v18 (ix3 0 x j)) := by
  pointwise [k0_pay4, k0_pay3, Cert.Ffn.proj, Cert.Ffn.rinv]

/-- The gate's half of the projections. -/
theorem pay5_at (v3 : FVec Ideal S1x512x1024 .f32) (v13 : FVec Ideal S1x1x1024 .f32) (v18 : FVec Ideal S1x1024x5376 .bf16)
    (r : Fin 512) (j : Fin 2688) : k0_pay5 (F := Ideal) v3 v13 v18 (ix2 r j)
      = Cert.Ffn.proj (fun x => v3 (ix3 0 r x)) (fun x => v13 (ix3 0 0 x)) (fun x => v18 (ix3 0 x ⟨j.val, by omega⟩)) := by
  rw [← pay4_at]
  pointwise [k0_pay5]

/-- The value's half of the projections. -/
theorem pay6_at (v3 : FVec Ideal S1x512x1024 .f32) (v13 : FVec Ideal S1x1x1024 .f32) (v18 : FVec Ideal S1x1024x5376 .bf16)
    (r : Fin 512) (j : Fin 2688) : k0_pay6 (F := Ideal) v3 v13 v18 (ix2 r j)
      = Cert.Ffn.proj (fun x => v3 (ix3 0 r x)) (fun x => v13 (ix3 0 0 x)) (fun x => v18 (ix3 0 x ⟨2688 + j.val, by omega⟩)) := by
  rw [← pay4_at]
  pointwise [k0_pay6]

/-- What is stored for the convolution is the gate's half. -/
theorem pay7_eq (v3 : FVec Ideal S1x512x1024 .f32) (v13 : FVec Ideal S1x1x1024 .f32) (v18 : FVec Ideal S1x1024x5376 .bf16) :
    k0_pay7 (F := Ideal) v3 v13 v18 = k0_pay5 (F := Ideal) v3 v13 v18 := by
  funext j
  pointwise [k0_pay7]

/-- The last normalisation of the block's rows. -/
theorem pay1_at (a : FVec Ideal S512x1024 .f32) (b : FVec Ideal S1x1024 .f32) (r : Fin 512) (d : Fin 1024) :
    k0_pay1 (F := Ideal) a b (mulf a a) (ix3 0 r d)
      = a (ix2 r d) * Cert.Ffn.rinv (fun x => a (ix2 r x)) * b (ix2 0 d) := by
  pointwise [k0_pay1, Cert.Ffn.rinv]

/-- The gate of the block's row `r`, the two rows before it given. -/
def gateOf (v23 : FVec Ideal S512x2688 .f32) (v29 : FVec Ideal S3x2688 .f32)
    (v31 v32 : FVec Ideal S1x2688 .f32) (v37 v42 : FVec Ideal S512x2688 .f32) (r : Fin 512) (x : Fin 2688) : EReal :=
  v31 (ix2 0 x) + v23 (ix2 r x) * v32 (ix2 0 x) + v37 (ix2 r x) * v29 (ix2 0 x) + v42 (ix2 r x) * v29 (ix2 1 x)

/-- The block's rows before the last normalisation. -/
theorem pay12_at (v4 : FVec Ideal S512x1024 .f32) (v23 v24 : FVec Ideal S512x2688 .f32) (v29 : FVec Ideal S3x2688 .f32)
    (v31 v32 : FVec Ideal S1x2688 .f32) (v37 v42 : FVec Ideal S512x2688 .f32) (v66 : FVec Ideal S1x2688x1024 .bf16)
    (r : Fin 512) (d : Fin 1024) :
    k0_pay12 (F := Ideal) v4 v23 v24 v29 v31 v32 v37 v42 v66 (ix2 r d)
      = v4 (ix2 r d) + ∑ x, Cert.Ffn.gel (gateOf v23 v29 v31 v32 v37 v42 r x) * v24 (ix2 r x) * v66 (ix3 0 x d) := by
  pointwise [k0_pay12, Cert.Ffn.gel, gateOf]

/-- The square that the last normalisation sums is of the rows themselves. -/
theorem pay14_eq (v4 : FVec Ideal S512x1024 .f32) (v23 v24 : FVec Ideal S512x2688 .f32) (v29 : FVec Ideal S3x2688 .f32)
    (v31 v32 : FVec Ideal S1x2688 .f32) (v37 v42 : FVec Ideal S512x2688 .f32) (v66 : FVec Ideal S1x2688x1024 .bf16) :
    k0_pay14 (F := Ideal) v4 v23 v24 v29 v31 v32 v37 v42 v66
      = mulf (k0_pay12 (F := Ideal) v4 v23 v24 v29 v31 v32 v37 v42 v66) (k0_pay12 (F := Ideal) v4 v23 v24 v29 v31 v32 v37 v42 v66) := rfl

/-- The block's output at row `r`, from what the body has read: the rows, the weights, and the gate's two earlier rows. -/
theorem point_at (x0 : FVec Ideal S1x512x1024 .f32) (x1 : FVec Ideal S1x1x1024 .f32) (x2 : FVec Ideal S1x1024x5376 .bf16)
    (x3 : FVec Ideal S1x3x2688 .f32) (x4 : FVec Ideal S1x1x2688 .f32) (x5 : FVec Ideal S1x2688x1024 .bf16)
    (x6 : FVec Ideal S1x1024 .f32) (v37 v42 : FVec Ideal S512x2688 .f32)
    (X : FVec Ideal ⟨3, ![8, 8192, 1024]⟩ .f32) (NF : FVec Ideal ⟨2, ![2, 1024]⟩ .f32)
    (WG WV : FVec Ideal ⟨3, ![2, 1024, 2688]⟩ .f32) (CW : FVec Ideal ⟨3, ![2, 3, 2688]⟩ .f32)
    (CB : FVec Ideal ⟨2, ![2, 2688]⟩ .f32) (WD : FVec Ideal ⟨3, ![2, 2688, 1024]⟩ .f32) (NO : FVec Ideal ⟨1, ![1024]⟩ .f32)
    (b : Fin 8) (t : Fin 8192) (r : Fin 512) (d : Fin 1024)
    (h0 : ∀ x, x0 (ix3 0 r x) = X (ix3 b t x)) (h1 : ∀ x, x1 (ix3 0 0 x) = NF (ix2 1 x))
    (h2 : ∀ x (j : Fin 2688), x2 (ix3 0 x ⟨j.val, by omega⟩) = WG (ix3 1 x j))
    (h2' : ∀ x (j : Fin 2688), x2 (ix3 0 x ⟨2688 + j.val, by omega⟩) = WV (ix3 1 x j))
    (h3 : ∀ (k : Fin 3) (j : Fin 2688), x3 (ix3 0 k j) = CW (ix3 1 k j)) (h4 : ∀ j : Fin 2688, x4 (ix3 0 0 j) = CB (ix2 1 j))
    (h5 : ∀ (j : Fin 2688) d, x5 (ix3 0 j d) = WD (ix3 1 j d)) (h6 : ∀ d, x6 (ix2 0 d) = NO (ix1 d))
    (h37 : ∀ j, v37 (ix2 r j) = Cert.Ffn.back 1 X NF WG 2 b t j) (h42 : ∀ j, v42 (ix2 r j) = Cert.Ffn.back 1 X NF WG 1 b t j) :
    k0_pay1 (F := Ideal)
        (k0_pay12 (k0_pay3 x0) (k0_pay5 x0 x1 x2) (k0_pay6 x0 x1 x2) (k0_pay8 x3) (k0_pay9 x4) (k0_pay10 x3) v37 v42 x5)
        (k0_pay13 x6)
        (k0_pay14 (k0_pay3 x0) (k0_pay5 x0 x1 x2) (k0_pay6 x0 x1 x2) (k0_pay8 x3) (k0_pay9 x4) (k0_pay10 x3) v37 v42 x5)
        (ix3 0 r d)
      = Cert.Ffn.out X NF WG WV CW CB WD NO b t d := by
  have hg : ∀ x, gateOf (k0_pay5 x0 x1 x2) (k0_pay8 x3) (k0_pay9 x4) (k0_pay10 x3) v37 v42 r x
      = Cert.Ffn.gate 1 X NF WG CW CB b t x := by
    intro x
    rw [gateOf, pay5_at, h37, h42]
    pointwise [k0_pay8, k0_pay9, k0_pay10]
    simp only [h0, h1, h2, h3, h4]
    rfl
  have hv : ∀ x, k0_pay6 (F := Ideal) x0 x1 x2 (ix2 r x) = Cert.Ffn.pre 1 X NF WV b t x := by
    intro x
    rw [pay6_at]
    simp only [h0, h1, h2']
    rfl
  have hr : ∀ d, k0_pay12 (F := Ideal) (k0_pay3 x0) (k0_pay5 x0 x1 x2) (k0_pay6 x0 x1 x2) (k0_pay8 x3) (k0_pay9 x4)
      (k0_pay10 x3) v37 v42 x5 (ix2 r d) = Cert.Ffn.row 1 X NF WG WV CW CB WD b t d := by
    intro d
    rw [pay12_at]
    simp only [hg, hv, h5]
    refine congrArg₂ (· + ·) ?_ rfl
    pointwise [k0_pay3]
    exact h0 d
  rw [pay14_eq, pay1_at]
  simp only [hr]
  refine congrArg₂ (· * ·) rfl ?_
  pointwise [k0_pay13]
  exact h6 d

end Cert.Kernel2Ideal.Ffn
end
-- ==== Proof.Ffn.Rows.lean ====
module

public import Idealize.ShloMosaic.Lib.Pointwise
public import Idealize.ShloMosaic.Lib.Pipeline.ValueKit
public import Idealize.ShloMosaic.Lib.Pipeline.ReadBack
public import Idealize.ShloMosaic.Lib.WritesUnit

@[expose] public section

noncomputable section

namespace Cert.Ffn

open Idealize.ShloMosaic

variable {e : EltTy} {Val : EltTy → Type} {d : Fin 2 → ℕ}

/-- A row under the last of a list of row writes holds that write's payload. -/
theorem canon_rows_of_mem [∀ e, Nonempty (Val e)] {off size : Fin 2 → ℕ} (o : ℕ) (inb : ∀ a : Fin 2, off a + size a ≤ d a)
    (w : (Rect.unit (s := ⟨2, d⟩) off size inb).shape.Idx → Val e) (L : List (View.Piece Val (⟨2, d⟩ : Shape) e))
    (y : (⟨2, d⟩ : Shape).Idx) (x : (Rect.unit (s := ⟨2, d⟩) off size inb).shape.Idx) (hoff : off = ![o, 0])
    (hx0 : (y (0 : Fin 2)).val = o + (x (0 : Fin 2)).val) (hx1 : (y (1 : Fin 2)).val = (x (1 : Fin 2)).val) :
    View.canon ((⟨Rect.unit (s := ⟨2, d⟩) off size inb, w⟩ : View.Piece Val (⟨2, d⟩ : Shape) e) :: L) y = w x := by
  subst hoff
  have hy : (Rect.unit (s := ⟨2, d⟩) ![o, 0] size inb).emb x = y := by
    refine funext (Fin.forall_fin_two.mpr ⟨Fin.ext ?_, Fin.ext ?_⟩)
    · show o + 1 * (x 0).val = (y 0).val
      omega
    · show 0 + 1 * (x 1).val = (y 1).val
      omega
  rw [← hy]
  exact View.canon_cons_emb _ w L x

/-- A row outside the last of a list of row writes holds what the earlier ones left. -/
theorem canon_rows_of_not_mem [∀ e, Nonempty (Val e)] {off size : Fin 2 → ℕ} (o W : ℕ) (inb : ∀ a : Fin 2, off a + size a ≤ d a)
    (w : (Rect.unit (s := ⟨2, d⟩) off size inb).shape.Idx → Val e) (L : List (View.Piece Val (⟨2, d⟩ : Shape) e))
    (y : (⟨2, d⟩ : Shape).Idx) (hoff : off = ![o, 0]) (hW : size (0 : Fin 2) = W)
    (h : (y (0 : Fin 2)).val < o ∨ o + W ≤ (y (0 : Fin 2)).val) :
    View.canon ((⟨Rect.unit (s := ⟨2, d⟩) off size inb, w⟩ : View.Piece Val (⟨2, d⟩ : Shape) e) :: L) y = View.canon L y := by
  subst hoff hW
  refine View.canon_cons_of_not_mem _ L fun hm => ?_
  have h2 : o ≤ (y 0).val ∧ (y 0).val < o + size 0 := ((Rect.mem_set_unit (s := ⟨2, d⟩) (inb := inb)).mp hm) 0
  omega

end Cert.Ffn
end
-- ==== Proof.Ffn.Scratch.lean ====
module

public import proofs.«01_k».proof.Proof.Gen.Kernel2Ideal.Value
public import proofs.«01_k».proof.Proof.Ffn.Pure
public import proofs.«01_k».proof.Proof.Ffn.Rows
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable {F : FTy → Type} [FloatOps F] (m : (ℓ : Loc nD τ sig) → Buf (Elt F) ℓ)

/-- The gate's half of the projections of point `t`'s rows. -/
abbrev preB (c : Dev nD) (t : Fin cfg0.N) : FVec F S512x2688 .f32 :=
  k0_pay5 (iblk m c 0 t) (iblk m c 1 t) (iblk m c 2 t)

theorem pay11_eq (v : FVec F S8x2688 .f32) : k0_pay11 v = v := by
  funext j
  pointwise [k0_pay11]

theorem pay7_eq' (v3 : FVec F S1x512x1024 .f32) (v13 : FVec F S1x1x1024 .f32) (v18 : FVec F S1x1024x5376 .bf16) :
    k0_pay7 v3 v13 v18 = k0_pay5 v3 v13 v18 := by
  funext j
  pointwise [k0_pay7]

/-- After any point the scratch's first eight rows are the last eight rows of the point's projections. -/
theorem carry_at (c : Dev nD) (t : Fin cfg0.N) (k : Fin 8) (j : Fin 2688) :
    (outsAt0 m c t.val t.isLt).2 (ix2 (⟨k.val, by omega⟩ : Fin 520) j) = preB m c t (ix2 (⟨504 + k.val, by omega⟩ : Fin 512) j) := by
  by_cases h0 : t.val % 16 = 0
  · rw [outsAt0_A m c t h0]
    frame_out
    refine Eq.trans (Cert.Ffn.canon_rows_of_mem (d := ![520, 2688]) (off := ![0, 0]) (size := ![8, 2688]) 0 inb_S520x2688_S8x2688_0_0 _ _
      (ix2 (⟨k.val, by omega⟩ : Fin 520) j) (ix2 k j) ?_ ?_ ?_) ?_
    · rfl
    · exact (Nat.zero_add _).symm
    · rfl
    rw [pay11_eq, pay7_eq', View.readCov_eq_canon']
    refine Cert.Ffn.canon_rows_of_mem (d := ![520, 2688]) (off := ![8, 0]) (size := ![512, 2688]) 8 inb_S520x2688_S512x2688_8_0 _ _
      _ (ix2 (⟨504 + k.val, by omega⟩ : Fin 512) j) ?_ ?_ ?_
    · rfl
    · show 512 + 1 * k.val = 8 + (504 + k.val); omega
    · show 0 + 1 * j.val = j.val; omega
  · rw [outsAt0_B m c t h0]
    frame_out
    refine Eq.trans (Cert.Ffn.canon_rows_of_mem (d := ![520, 2688]) (off := ![0, 0]) (size := ![8, 2688]) 0 inb_S520x2688_S8x2688_0_0 _ _
      (ix2 (⟨k.val, by omega⟩ : Fin 520) j) (ix2 k j) ?_ ?_ ?_) ?_
    · rfl
    · exact (Nat.zero_add _).symm
    · rfl
    rw [pay11_eq, pay7_eq', View.readCov_eq_canon']
    refine Cert.Ffn.canon_rows_of_mem (d := ![520, 2688]) (off := ![8, 0]) (size := ![512, 2688]) 8 inb_S520x2688_S512x2688_8_0 _ _
      _ (ix2 (⟨504 + k.val, by omega⟩ : Fin 512) j) ?_ ?_ ?_
    · rfl
    · show 512 + 1 * k.val = 8 + (504 + k.val); omega
    · show 0 + 1 * j.val = j.val; omega

/-- What the buffer of the projections holds `k` rows before row `r` of point `t`: the point's own rows; before them the
    last rows of the point before, or zero where a sequence begins. -/
def tileBack (c : Dev nD) (t : Fin cfg0.N) (k : ℕ) (r : Fin 512) (j : Fin 2688) : F .f32 :=
  if hr : r.val < k then
    if t.val % 16 = 0 then FloatOps.ofBits .f32 0#32
    else preB m c ⟨t.val - 1, by omega⟩ (ix2 (⟨(512 + r.val - k) % 512, Nat.mod_lt _ (by decide)⟩ : Fin 512) j)
  else preB m c t (ix2 (⟨r.val - k, by omega⟩ : Fin 512) j)

/-- A load at row `8 - k` after a fresh start. -/
theorem loadA (c : Dev nD) (t : Fin cfg0.N) (h0 : t.val % 16 = 0) (k : ℕ) (hk : k ≤ 8) (f : (cc0_scratch0 : Ref sig .tc).ty.Contents (Elt F))
    (r : Fin 512) (j : Fin 2688) (y : S520x2688.Idx) (hy0 : (y 0).val = 8 - k + r.val) (hy1 : (y 1).val = j.val) :
    (View.whole cc0_scratch0).read (Elt F) ((View.whole cc0_scratch0).writes (Elt F) f
      [⟨Rect.unit ![8, 0] ![512, 2688] inb_S520x2688_S512x2688_8_0, k0_pay7 (iblk m c 0 t) (iblk m c 1 t) (iblk m c 2 t)⟩,
       ⟨Rect.unit ![0, 0] ![8, 2688] inb_S520x2688_S8x2688_0_0, k0_pay2⟩]) y = tileBack m c t k r j := by
  unfold tileBack
  by_cases hr : r.val < k
  · rw [dif_pos hr, if_pos h0]
    refine (View.read_writes_cons_rows_of_not_mem (d := ![520, 2688]) (o := 8) (W := 512) _ _ inb_S520x2688_S512x2688_8_0 _ _ y rfl rfl (by omega)).trans ?_
    refine (View.read_writes_cons_rows_of_mem (d := ![520, 2688]) (o := 0) _ _ inb_S520x2688_S8x2688_0_0 _ _ y
      (ix2 (⟨8 - k + r.val, by omega⟩ : Fin 8) j) rfl (by rw [hy0]; exact (Nat.zero_add _).symm) hy1).trans ?_
    pointwise [k0_pay2]
  · rw [dif_neg hr]
    exact (View.read_writes_cons_rows_of_mem (d := ![520, 2688]) (o := 8) _ _ inb_S520x2688_S512x2688_8_0 _ _ y
      (ix2 (⟨r.val - k, by omega⟩ : Fin 512) j) rfl (by rw [hy0]; show _ = 8 + (r.val - k); omega) hy1).trans
      (congrFun (pay7_eq' _ _ _) _)

/-- A load at row `8 - k` after another point of the same sequence. -/
theorem loadB (c : Dev nD) (t : Fin cfg0.N) (h0 : ¬ t.val % 16 = 0) (k : ℕ) (hk : k ≤ 8) (hw : (Memref.whole cc0_scratch0).IsWhole)
    (hp : t.val - 1 < cfg0.N) (r : Fin 512) (j : Fin 2688) (y : S520x2688.Idx) (hy0 : (y 0).val = 8 - k + r.val) (hy1 : (y 1).val = j.val) :
    (View.whole cc0_scratch0).read (Elt F) ((View.whole cc0_scratch0).writes (Elt F) (hw.unread (outsAt0 m c (t.val - 1) hp).2)
      [⟨Rect.unit ![8, 0] ![512, 2688] inb_S520x2688_S512x2688_8_0, k0_pay7 (iblk m c 0 t) (iblk m c 1 t) (iblk m c 2 t)⟩]) y
      = tileBack m c t k r j := by
  unfold tileBack
  by_cases hr : r.val < k
  · rw [dif_pos hr, if_neg h0]
    refine (View.read_writes_cons_rows_of_not_mem (d := ![520, 2688]) (o := 8) (W := 512) _ _ inb_S520x2688_S512x2688_8_0 _ _ y rfl rfl (by omega)).trans ?_
    rw [View.writes_nil, read_unread_whole]
    have e : y = ix2 (⟨8 - k + r.val, by omega⟩ : Fin 520) j := by
      rw [eq_ix2 y]
      congr 1
      · exact Fin.ext hy0
      · exact Fin.ext hy1
    rw [e]
    refine (carry_at m c ⟨t.val - 1, hp⟩ ⟨8 - k + r.val, by omega⟩ j).trans ?_
    refine congrArg (fun q => preB m c ⟨t.val - 1, hp⟩ (ix2 q j)) (Fin.ext ?_)
    show 504 + (8 - k + r.val) = (512 + r.val - k) % 512
    omega
  · rw [dif_neg hr]
    exact (View.read_writes_cons_rows_of_mem (d := ![520, 2688]) (o := 8) _ _ inb_S520x2688_S512x2688_8_0 _ _ y
      (ix2 (⟨r.val - k, by omega⟩ : Fin 512) j) rfl (by rw [hy0]; show _ = 8 + (r.val - k); omega) hy1).trans
      (congrFun (pay7_eq' _ _ _) _)

end Cert.Kernel2Ideal.Ffn
end
-- ==== Proof.Ffn.Blocks.lean ====
module

public import proofs.«01_k».proof.Proof.Ffn.Scratch

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ)

/-- The windows' block positions at every point, and the number of points. -/
theorem idx : ∀ t : Fin cfg0.N, win0_0.index t = ![t.val / 16, t.val % 16, 0] ∧ win0_1.index t = ![1, 0, 0]
    ∧ win0_2.index t = ![1, 0, 0] ∧ win0_3.index t = ![1, 0, 0] ∧ win0_4.index t = ![1, 0, 0] ∧ win0_5.index t = ![1, 0, 0]
    ∧ win0_6.index t = ![0, 0] ∧ win0_7.index t = ![t.val / 16, t.val % 16, 0] ∧ t.val < 128 :=
  (by decide +kernel : ∀ t : Fin grid0.N, _)

theorem lt_N (t : Fin cfg0.N) : t.val < 128 := (idx t).2.2.2.2.2.2.2.2

theorem x_at (c : Dev nD) (t : Fin cfg0.N) (r : Fin 512) (x : Fin 1024) :
    iblk m c 0 t (ix3 0 r x : S1x512x1024.Idx) = m ((c : Thread nD τ).loc main_arg0)
      (ix3 (⟨t.val / 16, by have := lt_N t; omega⟩ : Fin 8) (⟨t.val % 16 * 512 + r.val, by omega⟩ : Fin 8192) x) := by
  blk_point [iblk, V, idx t]
theorem nf_at (c : Dev nD) (t : Fin cfg0.N) (x : Fin 1024) :
    iblk m c 1 t (ix3 0 0 x : S1x1x1024.Idx) = m ((c : Thread nD τ).loc main_arg1) (ix2 1 x) := by
  blk_point [iblk, V, idx t]
theorem wg_at (c : Dev nD) (t : Fin cfg0.N) (x : Fin 1024) (j : Fin 2688) :
    iblk m c 2 t (ix3 0 x (⟨j.val, by omega⟩ : Fin 5376) : S1x1024x5376.Idx) = m ((c : Thread nD τ).loc main_arg2) (ix3 1 x j) := by
  blk_simp [iblk]
  entry_read
  pointwise
  refine (dif_pos (by blk_simp [idx t]; exact j.isLt)).trans ?_
  blk_ext [idx t]
theorem wv_at (c : Dev nD) (t : Fin cfg0.N) (x : Fin 1024) (j : Fin 2688) :
    iblk m c 2 t (ix3 0 x (⟨2688 + j.val, by omega⟩ : Fin 5376) : S1x1024x5376.Idx) = m ((c : Thread nD τ).loc main_arg3) (ix3 1 x j) := by
  blk_simp [iblk]
  entry_read
  pointwise
  refine (dif_neg (by blk_simp [idx t]; exact Nat.not_lt.mpr (Nat.le_add_right 2688 j.val))).trans ?_
  blk_ext [idx t]
theorem cw_at (c : Dev nD) (t : Fin cfg0.N) (k : Fin 3) (j : Fin 2688) :
    iblk m c 3 t (ix3 0 k j : S1x3x2688.Idx) = m ((c : Thread nD τ).loc main_arg4) (ix3 1 k j) := by
  blk_point [iblk, V, idx t]
theorem cb_at (c : Dev nD) (t : Fin cfg0.N) (j : Fin 2688) :
    iblk m c 4 t (ix3 0 0 j : S1x1x2688.Idx) = m ((c : Thread nD τ).loc main_arg5) (ix2 1 j) := by
  blk_point [iblk, V, idx t]
theorem wd_at (c : Dev nD) (t : Fin cfg0.N) (j : Fin 2688) (d : Fin 1024) :
    iblk m c 5 t (ix3 0 j d : S1x2688x1024.Idx) = m ((c : Thread nD τ).loc main_arg6) (ix3 1 j d) := by
  blk_point [iblk, V, idx t]
theorem no_at (c : Dev nD) (t : Fin cfg0.N) (d : Fin 1024) :
    iblk m c 6 t (ix2 0 d : S1x1024.Idx) = m ((c : Thread nD τ).loc main_arg7) (ix1 d) := by
  blk_point [iblk, V, idx t]

/-- Point `t`'s sequence and the position in it of the block's row `r`. -/
abbrev seqOf (t : Fin cfg0.N) : Fin 8 := ⟨t.val / 16, by have := lt_N t; omega⟩
abbrev posOf (t : Fin cfg0.N) (r : Fin 512) : Fin 8192 := ⟨t.val % 16 * 512 + r.val, by omega⟩

theorem preB_at (c : Dev nD) (t : Fin cfg0.N) (r : Fin 512) (j : Fin 2688) :
    preB m c t (ix2 r j) = Cert.Ffn.pre 1 (m ((c : Thread nD τ).loc main_arg0)) (m ((c : Thread nD τ).loc main_arg1))
      (m ((c : Thread nD τ).loc main_arg2)) (seqOf t) (posOf t r) j :=
  (pay5_at (iblk m c 0 t) (iblk m c 1 t) (iblk m c 2 t) r j).trans
    (Cert.Ffn.proj_congr (fun x => x_at m c t r x) (fun x => nf_at m c t x) (fun x => wg_at m c t x j))

/-- The buffer's earlier rows are the projections at the earlier positions of the sequence. -/
theorem tileBack_at (c : Dev nD) (t : Fin cfg0.N) (k : ℕ) (hk : k ≤ 8) (r : Fin 512) (j : Fin 2688) :
    tileBack m c t k r j = Cert.Ffn.back 1 (m ((c : Thread nD τ).loc main_arg0)) (m ((c : Thread nD τ).loc main_arg1))
      (m ((c : Thread nD τ).loc main_arg2)) k (seqOf t) (posOf t r) j := by
  have hN := lt_N t
  unfold tileBack Cert.Ffn.back
  by_cases hr : r.val < k
  · rw [dif_pos hr]
    by_cases h0 : t.val % 16 = 0
    · rw [if_pos h0, if_pos (show t.val % 16 * 512 + r.val < k by omega)]
      exact Cert.Ffn.zero_eq
    · rw [if_neg h0, if_neg (show ¬ t.val % 16 * 512 + r.val < k by omega)]
      refine (preB_at m c _ _ j).trans ?_
      refine congrArg₂ (fun a b => Cert.Ffn.pre 1 _ _ _ a b j) (Fin.ext ?_) (Fin.ext ?_)
      · show (t.val - 1) / 16 = t.val / 16
        omega
      · show (t.val - 1) % 16 * 512 + (512 + r.val - k) % 512 = t.val % 16 * 512 + r.val - k
        omega
  · rw [dif_neg hr, if_neg (show ¬ t.val % 16 * 512 + r.val < k by omega)]
    refine (preB_at m c _ _ j).trans ?_
    refine congrArg (fun b => Cert.Ffn.pre 1 _ _ _ (seqOf t) b j) (Fin.ext ?_)
    show t.val % 16 * 512 + (r.val - k) = t.val % 16 * 512 + r.val - k
    omega

end Cert.Kernel2Ideal.Ffn
end
-- ==== Proof.Ffn.Ref.lean ====
module

public import proofs.«01_k».proof.Proof.Gen.Reference2Ideal.Run
public import proofs.«01_k».proof.Proof.Ffn.Spec

@[expose] public section

set_option maxRecDepth 16384

noncomputable section

namespace Cert.Reference2Ideal.Ffn

open Cert.Reference2Ideal Cert.Reference2Ideal.Gen Idealize.ShloMosaic Idealize.ShloMosaic.TcCoe Idealize.SL.Sem

/-- The reference's normalisation of every row, weighted by `W`. -/
def rNorm (X : FVec Ideal S8x8192x1024 .f32) (W : FVec Ideal S1024 .f32) : FVec Ideal S8x8192x1024 .f32 :=
  mulf (mulf X (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 W))

/-- The reference's projection of the normalised rows. -/
def rPre (X : FVec Ideal S8x8192x1024 .f32) (NF : FVec Ideal S2x1024 .f32) (W : FVec Ideal S2x1024x2688 .f32) :
    FVec Ideal S8x8192x2688 .f32 :=
  Host.dotGeneral dot_S8x8192x1024_S1024x2688_S8x8192x2688_2_0_01_1_n_n none (rNorm X (shapeCast _ (extractStridedSlice S1x1024 ![1, 0] NF slices_S2x1024_S1x1024_1_0) shapeCasts_S1x1024_S1024)) (shapeCast _ (extractStridedSlice S1x1024x2688 ![1, 0, 0] W slices_S2x1024x2688_S1x1024x2688_1_0_0) shapeCasts_S1x1024x2688_S1024x2688)

/-- The projection with two rows of zeros before it. -/
def rPad (X : FVec Ideal S8x8192x1024 .f32) (NF : FVec Ideal S2x1024 .f32) (WG : FVec Ideal S2x1024x2688 .f32) :
    FVec Ideal S8x8194x2688 .f32 :=
  pad S8x8194x2688 ![0, 2, 0] ![0, 0, 0] ![0, 0, 0] (rPre X NF WG) (sitofp .f32 (constantI S_ 32 0#32)) pads_S8x8192x2688_S8x8194x2688_000_200_000 h_S_

/-- The reference's gate before its activation. -/
def rGate (X : FVec Ideal S8x8192x1024 .f32) (NF : FVec Ideal S2x1024 .f32) (WG : FVec Ideal S2x1024x2688 .f32)
    (CW : FVec Ideal S2x3x2688 .f32) (CB : FVec Ideal S2x2688 .f32) : FVec Ideal S8x8192x2688 .f32 :=
  addf (addf (addf (broadcastInDim S8x8192x2688 ![0, 1, 2] bcast_S1x1x2688_S8x8192x2688_0_1_2 (broadcastInDim S1x1x2688 ![2] bcast_S2688_S1x1x2688_2 (shapeCast _ (extractStridedSlice S1x2688 ![1, 0] CB slices_S2x2688_S1x2688_1_0) shapeCasts_S1x2688_S2688))) (mulf (extractStridedSlice S8x8192x2688 ![0, 2, 0] (rPad X NF WG) slices_S8x8194x2688_S8x8192x2688_0_2_0) (broadcastInDim S8x8192x2688 ![0, 1, 2] bcast_S1x1x2688_S8x8192x2688_0_1_2 (broadcastInDim S1x1x2688 ![2] bcast_S2688_S1x1x2688_2 (shapeCast _ (extractStridedSlice S1x2688 ![2, 0] (shapeCast S3x2688 (extractStridedSlice S1x3x2688 ![1, 0, 0] CW slices_S2x3x2688_S1x3x2688_1_0_0) shapeCasts_S1x3x2688_S3x2688) slices_S3x2688_S1x2688_2_0) shapeCasts_S1x2688_S2688))))) (mulf (extractStridedSlice S8x8192x2688 ![0, 0, 0] (rPad X NF WG) slices_S8x8194x2688_S8x8192x2688_0_0_0) (broadcastInDim S8x8192x2688 ![0, 1, 2] bcast_S1x1x2688_S8x8192x2688_0_1_2 (broadcastInDim S1x1x2688 ![2] bcast_S2688_S1x1x2688_2 (shapeCast _ (extractStridedSlice S1x2688 ![0, 0] (shapeCast S3x2688 (extractStridedSlice S1x3x2688 ![1, 0, 0] CW slices_S2x3x2688_S1x3x2688_1_0_0) shapeCasts_S1x3x2688_S3x2688) slices_S3x2688_S1x2688_0_0) shapeCasts_S1x2688_S2688))))) (mulf (extractStridedSlice S8x8192x2688 ![0, 1, 0] (rPad X NF WG) slices_S8x8194x2688_S8x8192x2688_0_1_0) (broadcastInDim S8x8192x2688 ![0, 1, 2] bcast_S1x1x2688_S8x8192x2688_0_1_2 (broadcastInDim S1x1x2688 ![2] bcast_S2688_S1x1x2688_2 (shapeCast _ (extractStridedSlice S1x2688 ![1, 0] (shapeCast S3x2688 (extractStridedSlice S1x3x2688 ![1, 0, 0] CW slices_S2x3x2688_S1x3x2688_1_0_0) shapeCasts_S1x3x2688_S3x2688) slices_S3x2688_S1x2688_1_0) shapeCasts_S1x2688_S2688))))

/-- The reference's rows before the last normalisation. -/
def rRow (X : FVec Ideal S8x8192x1024 .f32) (NF : FVec Ideal S2x1024 .f32) (WG WV : FVec Ideal S2x1024x2688 .f32)
    (CW : FVec Ideal S2x3x2688 .f32) (CB : FVec Ideal S2x2688 .f32) (WD : FVec Ideal S2x2688x1024 .f32) :
    FVec Ideal S8x8192x1024 .f32 :=
  addf X (Host.dotGeneral dot_S8x8192x2688_S2688x1024_S8x8192x1024_2_0_01_1_n_n none (mulf (mulf (rGate X NF WG CW CB) (mulf (broadcastInDim S8x8192x2688 ![] bcast_S_S8x8192x2688 (constant S_ .f32 0x3F000000#32)) (addf (broadcastInDim S8x8192x2688 ![] bcast_S_S8x8192x2688 (constant S_ .f32 0x3F800000#32)) (Host.tanh (mulf (broadcastInDim S8x8192x2688 ![] bcast_S_S8x8192x2688 (constant S_ .f32 0x3F4C422A#32)) (addf (rGate X NF WG CW CB) (mulf (broadcastInDim S8x8192x2688 ![] bcast_S_S8x8192x2688 (constant S_ .f32 0x3D372713#32)) (mulf (mulf (rGate X NF WG CW CB) (rGate X NF WG CW CB)) (rGate X NF WG CW CB))))))))) (rPre X NF WV)) (shapeCast _ (extractStridedSlice S1x2688x1024 ![1, 0, 0] WD slices_S2x2688x1024_S1x2688x1024_1_0_0) shapeCasts_S1x2688x1024_S2688x1024))

theorem res_eq (m : (ℓ : Loc nD τ sig) → Buf (Elt Ideal) ℓ) (c : Dev nD) :
    Value.res_main_v79 m c = rNorm (rRow (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))) (m ((c.tc : Thread nD τ).loc main_arg7)) := rfl

theorem rNorm_at (X : FVec Ideal S8x8192x1024 .f32) (W : FVec Ideal S1024 .f32) (b : Fin 8) (t : Fin 8192) (d : Fin 1024) :
    rNorm X W (ix3 b t d) = X (ix3 b t d) * Cert.Ffn.rinv (fun x => X (ix3 b t x)) * W (ix1 d) := by
  pointwise [rNorm, Cert.Ffn.rinv]

theorem rPre_at (X : FVec Ideal S8x8192x1024 .f32) (NF : FVec Ideal S2x1024 .f32) (W : FVec Ideal S2x1024x2688 .f32)
    (b : Fin 8) (t : Fin 8192) (j : Fin 2688) :
    rPre X NF W (ix3 b t j) = Cert.Ffn.pre 1 X NF W b t j := by
  refine Eq.trans ?_ (Cert.Ffn.proj_eq _ _ _)
  pointwise [rPre]
  refine Finset.sum_congr rfl fun x _ => ?_
  rw [rNorm_at]
  pointwise []

theorem rPad_at (X : FVec Ideal S8x8192x1024 .f32) (NF : FVec Ideal S2x1024 .f32) (WG : FVec Ideal S2x1024x2688 .f32)
    (b : Fin 8) (t : Fin 8194) (j : Fin 2688) :
    rPad X NF WG (ix3 b t j) = if h : t.val < 2 then 0 else Cert.Ffn.pre 1 X NF WG b ⟨t.val - 2, by omega⟩ j := by
  pointwise [rPad]
  by_cases h : t.val < 2
  · rw [dif_neg (by omega), dif_pos h]
    exact (by norm_num : (((0#32).toInt : ℝ) : EReal) = 0)
  · rw [dif_pos ⟨by omega, by omega⟩, dif_neg h, rPre_at]

theorem rGate_at (X : FVec Ideal S8x8192x1024 .f32) (NF : FVec Ideal S2x1024 .f32) (WG : FVec Ideal S2x1024x2688 .f32)
    (CW : FVec Ideal S2x3x2688 .f32) (CB : FVec Ideal S2x2688 .f32) (b : Fin 8) (t : Fin 8192) (j : Fin 2688) :
    rGate X NF WG CW CB (ix3 b t j) = Cert.Ffn.gate 1 X NF WG CW CB b t j := by
  pointwise [rGate]
  rw [rPad_at, rPad_at, rPad_at, Cert.Ffn.gate]
  have h2 : (if h : 2 + t.val < 2 then (0 : EReal) else Cert.Ffn.pre 1 X NF WG b ⟨2 + t.val - 2, by omega⟩ j)
      = Cert.Ffn.pre 1 X NF WG b t j := by
    rw [dif_neg (by omega)]; congr 1; ext; simp
  have h0 : (if h : t.val < 2 then (0 : EReal) else Cert.Ffn.pre 1 X NF WG b ⟨t.val - 2, by omega⟩ j)
      = Cert.Ffn.back 1 X NF WG 2 b t j := by
    unfold Cert.Ffn.back; split <;> rfl
  have h1 : (if h : 1 + t.val < 2 then (0 : EReal) else Cert.Ffn.pre 1 X NF WG b ⟨1 + t.val - 2, by omega⟩ j)
      = Cert.Ffn.back 1 X NF WG 1 b t j := by
    unfold Cert.Ffn.back
    by_cases h : t.val < 1
    · rw [dif_pos (by omega), if_pos h]
    · rw [dif_neg (by omega), if_neg h]; congr 1; ext; simp; omega
  exact congrArg₂ (· + ·) (congrArg₂ (· + ·) (congrArg₂ (· + ·) rfl (congrArg (· * _) h2)) (congrArg (· * _) h0))
    (congrArg (· * _) h1)

theorem rRow_at (X : FVec Ideal S8x8192x1024 .f32) (NF : FVec Ideal S2x1024 .f32) (WG WV : FVec Ideal S2x1024x2688 .f32)
    (CW : FVec Ideal S2x3x2688 .f32) (CB : FVec Ideal S2x2688 .f32) (WD : FVec Ideal S2x2688x1024 .f32)
    (b : Fin 8) (t : Fin 8192) (d : Fin 1024) :
    rRow X NF WG WV CW CB WD (ix3 b t d) = Cert.Ffn.row 1 X NF WG WV CW CB WD b t d := by
  pointwise [rRow]
  refine congrArg _ (Finset.sum_congr rfl fun x _ => ?_)
  rw [rGate_at, rPre_at, Cert.Ffn.gel, mul_assoc (Cert.Ffn.gate 1 X NF WG CW CB b t x) (Cert.Ffn.gate 1 X NF WG CW CB b t x)]

/-- What the reference's result holds at an index. -/
theorem res_at (m : (ℓ : Loc nD τ sig) → Buf (Elt Ideal) ℓ) (c : Dev nD) (b : Fin 8) (t : Fin 8192) (d : Fin 1024) :
    Value.res_main_v79 m c (ix3 b t d) = Cert.Ffn.out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) b t d := by
  rw [res_eq]
  refine (rNorm_at _ _ b t d).trans ?_
  simp only [rRow_at]
  rfl

end Cert.Reference2Ideal.Ffn
end
-- ==== Proof.Ffn.Value.lean ====
module

public import proofs.«01_k».proof.Proof.Ffn.Blocks
public import proofs.«01_k».proof.Proof.Ffn.Ref

@[expose] public section

set_option maxRecDepth 16384

noncomputable section

namespace Cert.Kernel2Ideal.Ffn

open Cert.Kernel2Ideal Cert.Kernel2Ideal.Value Cert.Kernel2Ideal.Gen Idealize.ShloMosaic Idealize.ShloMosaic.TcCoe Idealize.SL.Sem

variable (m : (ℓ : Loc nD τ sig) → Buf (Elt Ideal) ℓ)

/-- What the call computes from its eight arguments, at one position and channel. -/
abbrev outOf (c : Dev nD) (b : Fin 8) (t : Fin 8192) (d : Fin 1024) : EReal :=
  Cert.Ffn.out (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) b t d

/-- The block that a grid point leaves in the output window, whatever the two earlier rows were read from. -/
theorem block_at (c : Dev nD) (t : Fin cfg0.N) (v37 v42 : FVec Ideal S512x2688 .f32) (r : Fin 512) (d : Fin 1024)
    (h37 : ∀ j, v37 (ix2 r j) = tileBack m c t 2 r j) (h42 : ∀ j, v42 (ix2 r j) = tileBack m c t 1 r j) :
    k0_pay1 (F := Ideal)
        (k0_pay12 (k0_pay3 (iblk m c 0 t)) (k0_pay5 (iblk m c 0 t) (iblk m c 1 t) (iblk m c 2 t))
          (k0_pay6 (iblk m c 0 t) (iblk m c 1 t) (iblk m c 2 t)) (k0_pay8 (iblk m c 3 t)) (k0_pay9 (iblk m c 4 t))
          (k0_pay10 (iblk m c 3 t)) v37 v42 (iblk m c 5 t))
        (k0_pay13 (iblk m c 6 t))
        (k0_pay14 (k0_pay3 (iblk m c 0 t)) (k0_pay5 (iblk m c 0 t) (iblk m c 1 t) (iblk m c 2 t))
          (k0_pay6 (iblk m c 0 t) (iblk m c 1 t) (iblk m c 2 t)) (k0_pay8 (iblk m c 3 t)) (k0_pay9 (iblk m c 4 t))
          (k0_pay10 (iblk m c 3 t)) v37 v42 (iblk m c 5 t))
        (ix3 0 r d)
      = outOf m c (seqOf t) (posOf t r) d :=
  point_at (iblk m c 0 t) (iblk m c 1 t) (iblk m c 2 t) (iblk m c 3 t) (iblk m c 4 t) (iblk m c 5 t) (iblk m c 6 t) v37 v42
    _ _ _ _ _ _ _ _ (seqOf t) (posOf t r) r d (fun x => x_at m c t r x) (fun x => nf_at m c t x)
    (fun x j => wg_at m c t x j) (fun x j => wv_at m c t x j) (fun k j => cw_at m c t k j) (fun j => cb_at m c t j)
    (fun j d => wd_at m c t j d) (fun d => no_at m c t d)
    (fun j => (h37 j).trans (tileBack_at m c t 2 (by omega) r j)) (fun j => (h42 j).trans (tileBack_at m c t 1 (by omega) r j))

theorem readCov_at (L : List (View.Piece (Elt Ideal) S520x2688 .f32)) (B : LoadRect S520x2688) (x : B.shape.Idx) :
    (View.whole cc0_scratch0).readCov L B x
      = (View.whole cc0_scratch0).read (Elt Ideal) ((View.whole cc0_scratch0).writes (Elt Ideal) (View.whole cc0_scratch0).junk L) (B.idx x) := rfl

/-- A row read at a sequence's first point is zero or one of the point's own. -/
theorem covA (c : Dev nD) (t : Fin cfg0.N) (h0 : t.val % 16 = 0) (k n : ℕ) (hk : k ≤ 8) (hn : n = 8 - k)
    (inb : ∀ a, (![n, 0] : Fin 2 → ℕ) a + (![512, 2688] : Fin 2 → ℕ) a ≤ S520x2688.size a) (r : Fin 512) (j : Fin 2688) :
    (View.whole cc0_scratch0).readCov (Val := Elt Ideal)
      [⟨Rect.unit ![8, 0] ![512, 2688] inb_S520x2688_S512x2688_8_0, k0_pay7 (iblk m c 0 t) (iblk m c 1 t) (iblk m c 2 t)⟩,
       ⟨Rect.unit ![0, 0] ![8, 2688] inb_S520x2688_S8x2688_0_0, k0_pay2 (F := Ideal)⟩]
      (Rect.unit (s := S520x2688) ![n, 0] ![512, 2688] inb).toLoadRect (ix2 r j : S512x2688.Idx) = tileBack m c t k r j := by
  rw [readCov_at]
  exact loadA m c t h0 k hk _ r j _ (by show n + 1 * r.val = _; omega) (by show 0 + 1 * j.val = _; omega)

/-- A row read at a later point is the point's own or one of the point's before it. -/
theorem covB (c : Dev nD) (t : Fin cfg0.N) (h0 : ¬ t.val % 16 = 0) (k n : ℕ) (hk : k ≤ 8) (hn : n = 8 - k)
    (hw : (Memref.whole cc0_scratch0).IsWhole) (hp : t.val - 1 < cfg0.N)
    (inb : ∀ a, (![n, 0] : Fin 2 → ℕ) a + (![512, 2688] : Fin 2 → ℕ) a ≤ S520x2688.size a) (r : Fin 512) (j : Fin 2688) :
    View.ld ((View.whole cc0_scratch0).read (Elt Ideal)
      ((View.whole cc0_scratch0).writes (Elt Ideal) (hw.unread (outsAt0 m c (t.val - 1) hp).2)
        [⟨Rect.unit ![8, 0] ![512, 2688] inb_S520x2688_S512x2688_8_0, k0_pay7 (iblk m c 0 t) (iblk m c 1 t) (iblk m c 2 t)⟩]))
      (Rect.unit (s := S520x2688) ![n, 0] ![512, 2688] inb) (ix2 r j : S512x2688.Idx) = tileBack m c t k r j :=
  loadB m c t h0 k hk hw hp r j _ (by show n + 1 * r.val = _; omega) (by show 0 + 1 * j.val = _; omega)

theorem point (c : Dev nD) (t : Fin cfg0.N) (r : Fin 512) (d : Fin 1024) :
    (outsAt0 m c t.val t.isLt).1 (ix3 0 r d) = outOf m c (seqOf t) (posOf t r) d := by
  by_cases h0 : t.val % 16 = 0
  · rw [outsAt0_A m c t h0]
    frame_out
    exact block_at m c t _ _ r d (fun j => covA m c t h0 2 6 (by omega) rfl _ r j) (fun j => covA m c t h0 1 7 (by omega) rfl _ r j)
  · rw [outsAt0_B m c t h0]
    frame_out
    exact block_at m c t _ _ r d (fun j => covB m c t h0 2 6 (by omega) rfl _ _ _ r j) (fun j => covB m c t h0 1 7 (by omega) rfl _ _ _ r j)

/-- The array that the call leaves is the layer's formula at every index. -/
theorem result_at (c : Dev nD) (b : Fin 8) (s : Fin 8192) (d : Fin 1024) :
    G7 m c (ix3 b s d : S8x8192x1024.Idx) = outOf m c b s d := by
  have hlt : 16 * b.val + s.val / 512 < cfg0.N := lt_of_lt_of_eq (by omega) N_0.symm
  have hpt : pt7Of (ix3 b s d : S8x8192x1024.Idx) = 16 * b.val + s.val / 512 := by
    show 16 * (b.val / 1 - 0) + 1 * (s.val / 512 - 0) + 1 * (d.val / 1024 - 0) = _
    omega
  have hloc : loc7Of (ix3 b s d : S8x8192x1024.Idx) = ix3 0 (⟨s.val % 512, by omega⟩ : Fin 512) d := by
    funext a
    apply Fin.ext
    match a with
    | ⟨0, _⟩ => show b.val % 1 = 0; omega
    | ⟨1, _⟩ => rfl
    | ⟨2, _⟩ => show d.val % 1024 = d.val; omega
  have hpt' := lt_of_eq_of_lt hpt hlt
  unfold G7
  rw [dif_pos hpt', hloc, fold0_congr m c _ _ _ (lt_of_eq_of_lt (Nat.zero_add _) hlt) hpt, ← outsAt0_sweep m c _ hlt]
  refine (point m c ⟨_, hlt⟩ _ d).trans ?_
  congr 1
  · apply Fin.ext
    show (16 * b.val + s.val / 512) / 16 = b.val
    omega
  · apply Fin.ext
    show (16 * b.val + s.val / 512) % 16 * 512 + s.val % 512 = s.val
    omega

end Cert.Kernel2Ideal.Ffn
end
-- ==== Proof.Ffn0.Pure.lean ====
module

public import proofs.«01_k».proof.Proof.Gen.Kernel3Ideal.Skeleton
public import proofs.«01_k».proof.Proof.Ffn.Spec

@[expose] public section

set_option maxRecDepth 16384

noncomputable section

namespace Cert.Kernel3Ideal.Ffn

open Cert.Kernel3Ideal Cert.Kernel3Ideal.Gen Idealize.ShloMosaic Idealize.ShloMosaic.TcCoe Idealize.SL.Sem

/-- The two projections side by side: the block's rows, weighted, on column `j`. -/
theorem pay3_at (v3 : FVec Ideal S1x512x1024 .f32) (v13 : FVec Ideal S1x1x1024 .f32) (v18 : FVec Ideal S1x1024x5376 .bf16)
    (r : Fin 512) (j : Fin 5376) : k0_pay3 (F := Ideal) v3 v13 v18 (ix2 r j)
      = Cert.Ffn.proj (fun x => v3 (ix3 0 r x)) (fun x => v13 (ix3 0 0 x)) (fun x => v18 (ix3 0 x j)) := by
  pointwise [k0_pay3, k0_pay2, Cert.Ffn.proj, Cert.Ffn.rinv]

/-- The gate's half of the projections. -/
theorem pay4_at (v3 : FVec Ideal S1x512x1024 .f32) (v13 : FVec Ideal S1x1x1024 .f32) (v18 : FVec Ideal S1x1024x5376 .bf16)
    (r : Fin 512) (j : Fin 2688) : k0_pay4 (F := Ideal) v3 v13 v18 (ix2 r j)
      = Cert.Ffn.proj (fun x => v3 (ix3 0 r x)) (fun x => v13 (ix3 0 0 x)) (fun x => v18 (ix3 0 x ⟨j.val, by omega⟩)) := by
  rw [← pay3_at]
  pointwise [k0_pay4]

/-- The value's half of the projections. -/
theorem pay5_at (v3 : FVec Ideal S1x512x1024 .f32) (v13 : FVec Ideal S1x1x1024 .f32) (v18 : FVec Ideal S1x1024x5376 .bf16)
    (r : Fin 512) (j : Fin 2688) : k0_pay5 (F := Ideal) v3 v13 v18 (ix2 r j)
      = Cert.Ffn.proj (fun x => v3 (ix3 0 r x)) (fun x => v13 (ix3 0 0 x)) (fun x => v18 (ix3 0 x ⟨2688 + j.val, by omega⟩)) := by
  rw [← pay3_at]
  pointwise [k0_pay5]

/-- What is stored for the convolution is the gate's half. -/
theorem pay6_eq (v3 : FVec Ideal S1x512x1024 .f32) (v13 : FVec Ideal S1x1x1024 .f32) (v18 : FVec Ideal S1x1024x5376 .bf16) :
    k0_pay6 (F := Ideal) v3 v13 v18 = k0_pay4 (F := Ideal) v3 v13 v18 := by
  funext j
  pointwise [k0_pay6]

/-- The gate of the block's row `r`, the two rows before it given. -/
def gateOf (v23 : FVec Ideal S512x2688 .f32) (v29 : FVec Ideal S3x2688 .f32)
    (v31 v32 : FVec Ideal S1x2688 .f32) (v37 v42 : FVec Ideal S512x2688 .f32) (r : Fin 512) (x : Fin 2688) : EReal :=
  v31 (ix2 0 x) + v23 (ix2 r x) * v32 (ix2 0 x) + v37 (ix2 r x) * v29 (ix2 0 x) + v42 (ix2 r x) * v29 (ix2 1 x)

/-- The block's output rows. -/
theorem pay11_at (v4 : FVec Ideal S512x1024 .f32) (v23 v24 : FVec Ideal S512x2688 .f32) (v29 : FVec Ideal S3x2688 .f32)
    (v31 v32 : FVec Ideal S1x2688 .f32) (v37 v42 : FVec Ideal S512x2688 .f32) (v66 : FVec Ideal S1x2688x1024 .bf16)
    (r : Fin 512) (d : Fin 1024) :
    k0_pay11 (F := Ideal) v4 v23 v24 v29 v31 v32 v37 v42 v66 (ix3 0 r d)
      = v4 (ix2 r d) + ∑ x, Cert.Ffn.gel (gateOf v23 v29 v31 v32 v37 v42 r x) * v24 (ix2 r x) * v66 (ix3 0 x d) := by
  pointwise [k0_pay11, Cert.Ffn.gel, gateOf]

/-- The block's output at row `r`, from what the body has read: the rows, the weights, and the gate's two earlier rows. -/
theorem point_at (x0 : FVec Ideal S1x512x1024 .f32) (x1 : FVec Ideal S1x1x1024 .f32) (x2 : FVec Ideal S1x1024x5376 .bf16)
    (x3 : FVec Ideal S1x3x2688 .f32) (x4 : FVec Ideal S1x1x2688 .f32) (x5 : FVec Ideal S1x2688x1024 .bf16)
    (v37 v42 : FVec Ideal S512x2688 .f32)
    (X : FVec Ideal ⟨3, ![8, 8192, 1024]⟩ .f32) (NF : FVec Ideal ⟨2, ![2, 1024]⟩ .f32)
    (WG WV : FVec Ideal ⟨3, ![2, 1024, 2688]⟩ .f32) (CW : FVec Ideal ⟨3, ![2, 3, 2688]⟩ .f32)
    (CB : FVec Ideal ⟨2, ![2, 2688]⟩ .f32) (WD : FVec Ideal ⟨3, ![2, 2688, 1024]⟩ .f32)
    (b : Fin 8) (t : Fin 8192) (r : Fin 512) (d : Fin 1024)
    (h0 : ∀ x, x0 (ix3 0 r x) = X (ix3 b t x)) (h1 : ∀ x, x1 (ix3 0 0 x) = NF (ix2 0 x))
    (h2 : ∀ x (j : Fin 2688), x2 (ix3 0 x ⟨j.val, by omega⟩) = WG (ix3 0 x j))
    (h2' : ∀ x (j : Fin 2688), x2 (ix3 0 x ⟨2688 + j.val, by omega⟩) = WV (ix3 0 x j))
    (h3 : ∀ (k : Fin 3) (j : Fin 2688), x3 (ix3 0 k j) = CW (ix3 0 k j)) (h4 : ∀ j : Fin 2688, x4 (ix3 0 0 j) = CB (ix2 0 j))
    (h5 : ∀ (j : Fin 2688) d, x5 (ix3 0 j d) = WD (ix3 0 j d))
    (h37 : ∀ j, v37 (ix2 r j) = Cert.Ffn.back 0 X NF WG 2 b t j) (h42 : ∀ j, v42 (ix2 r j) = Cert.Ffn.back 0 X NF WG 1 b t j) :
    k0_pay11 (F := Ideal) (k0_pay2 x0) (k0_pay4 x0 x1 x2) (k0_pay5 x0 x1 x2) (k0_pay7 x3) (k0_pay8 x4) (k0_pay9 x3) v37 v42 x5
        (ix3 0 r d)
      = Cert.Ffn.row 0 X NF WG WV CW CB WD b t d := by
  have hg : ∀ x, gateOf (k0_pay4 x0 x1 x2) (k0_pay7 x3) (k0_pay8 x4) (k0_pay9 x3) v37 v42 r x
      = Cert.Ffn.gate 0 X NF WG CW CB b t x := by
    intro x
    rw [gateOf, pay4_at, h37, h42]
    pointwise [k0_pay7, k0_pay8, k0_pay9]
    simp only [h0, h1, h2, h3, h4]
    rfl
  have hv : ∀ x, k0_pay5 (F := Ideal) x0 x1 x2 (ix2 r x) = Cert.Ffn.pre 0 X NF WV b t x := by
    intro x
    rw [pay5_at]
    simp only [h0, h1, h2']
    rfl
  rw [pay11_at]
  simp only [hg, hv, h5]
  refine congrArg₂ (· + ·) ?_ rfl
  pointwise [k0_pay2]
  exact h0 d

end Cert.Kernel3Ideal.Ffn
end
-- ==== Proof.Ffn0.Scratch.lean ====
module

public import proofs.«01_k».proof.Proof.Gen.Kernel3Ideal.Value
public import proofs.«01_k».proof.Proof.Ffn0.Pure
public import proofs.«01_k».proof.Proof.Ffn.Rows
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Kernel3Ideal.Ffn

open Cert.Kernel3Ideal Cert.Kernel3Ideal.Gen Idealize.ShloMosaic Idealize.ShloMosaic.TcCoe Idealize.SL.Sem

variable {F : FTy → Type} [FloatOps F] (m : (ℓ : Loc nD τ sig) → Buf (Elt F) ℓ)

/-- The gate's half of the projections of point `t`'s rows. -/
abbrev preB (c : Dev nD) (t : Fin cfg0.N) : FVec F S512x2688 .f32 :=
  k0_pay4 (iblk m c 0 t) (iblk m c 1 t) (iblk m c 2 t)

theorem pay10_eq (v : FVec F S8x2688 .f32) : k0_pay10 v = v := by
  funext j
  pointwise [k0_pay10]

theorem pay6_eq' (v3 : FVec F S1x512x1024 .f32) (v13 : FVec F S1x1x1024 .f32) (v18 : FVec F S1x1024x5376 .bf16) :
    k0_pay6 v3 v13 v18 = k0_pay4 v3 v13 v18 := by
  funext j
  pointwise [k0_pay6]

/-- After any point the scratch's first eight rows are the last eight rows of the point's projections. -/
theorem carry_at (c : Dev nD) (t : Fin cfg0.N) (k : Fin 8) (j : Fin 2688) :
    (outsAt0 m c t.val t.isLt).2 (ix2 (⟨k.val, by omega⟩ : Fin 520) j) = preB m c t (ix2 (⟨504 + k.val, by omega⟩ : Fin 512) j) := by
  by_cases h0 : t.val % 16 = 0
  · rw [outsAt0_A m c t h0]
    frame_out
    refine Eq.trans (Cert.Ffn.canon_rows_of_mem (d := ![520, 2688]) (off := ![0, 0]) (size := ![8, 2688]) 0 inb_S520x2688_S8x2688_0_0 _ _
      (ix2 (⟨k.val, by omega⟩ : Fin 520) j) (ix2 k j) ?_ ?_ ?_) ?_
    · rfl
    · exact (Nat.zero_add _).symm
    · rfl
    rw [pay10_eq, pay6_eq', View.readCov_eq_canon']
    refine Cert.Ffn.canon_rows_of_mem (d := ![520, 2688]) (off := ![8, 0]) (size := ![512, 2688]) 8 inb_S520x2688_S512x2688_8_0 _ _
      _ (ix2 (⟨504 + k.val, by omega⟩ : Fin 512) j) ?_ ?_ ?_
    · rfl
    · show 512 + 1 * k.val = 8 + (504 + k.val); omega
    · show 0 + 1 * j.val = j.val; omega
  · rw [outsAt0_B m c t h0]
    frame_out
    refine Eq.trans (Cert.Ffn.canon_rows_of_mem (d := ![520, 2688]) (off := ![0, 0]) (size := ![8, 2688]) 0 inb_S520x2688_S8x2688_0_0 _ _
      (ix2 (⟨k.val, by omega⟩ : Fin 520) j) (ix2 k j) ?_ ?_ ?_) ?_
    · rfl
    · exact (Nat.zero_add _).symm
    · rfl
    rw [pay10_eq, pay6_eq', View.readCov_eq_canon']
    refine Cert.Ffn.canon_rows_of_mem (d := ![520, 2688]) (off := ![8, 0]) (size := ![512, 2688]) 8 inb_S520x2688_S512x2688_8_0 _ _
      _ (ix2 (⟨504 + k.val, by omega⟩ : Fin 512) j) ?_ ?_ ?_
    · rfl
    · show 512 + 1 * k.val = 8 + (504 + k.val); omega
    · show 0 + 1 * j.val = j.val; omega

/-- What the buffer of the projections holds `k` rows before row `r` of point `t`: the point's own rows; before them the
    last rows of the point before, or zero where a sequence begins. -/
def tileBack (c : Dev nD) (t : Fin cfg0.N) (k : ℕ) (r : Fin 512) (j : Fin 2688) : F .f32 :=
  if hr : r.val < k then
    if t.val % 16 = 0 then FloatOps.ofBits .f32 0#32
    else preB m c ⟨t.val - 1, by omega⟩ (ix2 (⟨(512 + r.val - k) % 512, Nat.mod_lt _ (by decide)⟩ : Fin 512) j)
  else preB m c t (ix2 (⟨r.val - k, by omega⟩ : Fin 512) j)

/-- A load at row `8 - k` after a fresh start. -/
theorem loadA (c : Dev nD) (t : Fin cfg0.N) (h0 : t.val % 16 = 0) (k : ℕ) (hk : k ≤ 8) (f : (cc0_scratch0 : Ref sig .tc).ty.Contents (Elt F))
    (r : Fin 512) (j : Fin 2688) (y : S520x2688.Idx) (hy0 : (y 0).val = 8 - k + r.val) (hy1 : (y 1).val = j.val) :
    (View.whole cc0_scratch0).read (Elt F) ((View.whole cc0_scratch0).writes (Elt F) f
      [⟨Rect.unit ![8, 0] ![512, 2688] inb_S520x2688_S512x2688_8_0, k0_pay6 (iblk m c 0 t) (iblk m c 1 t) (iblk m c 2 t)⟩,
       ⟨Rect.unit ![0, 0] ![8, 2688] inb_S520x2688_S8x2688_0_0, k0_pay1⟩]) y = tileBack m c t k r j := by
  unfold tileBack
  by_cases hr : r.val < k
  · rw [dif_pos hr, if_pos h0]
    refine (View.read_writes_cons_rows_of_not_mem (d := ![520, 2688]) (o := 8) (W := 512) _ _ inb_S520x2688_S512x2688_8_0 _ _ y rfl rfl (by omega)).trans ?_
    refine (View.read_writes_cons_rows_of_mem (d := ![520, 2688]) (o := 0) _ _ inb_S520x2688_S8x2688_0_0 _ _ y
      (ix2 (⟨8 - k + r.val, by omega⟩ : Fin 8) j) rfl (by rw [hy0]; exact (Nat.zero_add _).symm) hy1).trans ?_
    pointwise [k0_pay1]
  · rw [dif_neg hr]
    exact (View.read_writes_cons_rows_of_mem (d := ![520, 2688]) (o := 8) _ _ inb_S520x2688_S512x2688_8_0 _ _ y
      (ix2 (⟨r.val - k, by omega⟩ : Fin 512) j) rfl (by rw [hy0]; show _ = 8 + (r.val - k); omega) hy1).trans
      (congrFun (pay6_eq' _ _ _) _)

/-- A load at row `8 - k` after another point of the same sequence. -/
theorem loadB (c : Dev nD) (t : Fin cfg0.N) (h0 : ¬ t.val % 16 = 0) (k : ℕ) (hk : k ≤ 8) (hw : (Memref.whole cc0_scratch0).IsWhole)
    (hp : t.val - 1 < cfg0.N) (r : Fin 512) (j : Fin 2688) (y : S520x2688.Idx) (hy0 : (y 0).val = 8 - k + r.val) (hy1 : (y 1).val = j.val) :
    (View.whole cc0_scratch0).read (Elt F) ((View.whole cc0_scratch0).writes (Elt F) (hw.unread (outsAt0 m c (t.val - 1) hp).2)
      [⟨Rect.unit ![8, 0] ![512, 2688] inb_S520x2688_S512x2688_8_0, k0_pay6 (iblk m c 0 t) (iblk m c 1 t) (iblk m c 2 t)⟩]) y
      = tileBack m c t k r j := by
  unfold tileBack
  by_cases hr : r.val < k
  · rw [dif_pos hr, if_neg h0]
    refine (View.read_writes_cons_rows_of_not_mem (d := ![520, 2688]) (o := 8) (W := 512) _ _ inb_S520x2688_S512x2688_8_0 _ _ y rfl rfl (by omega)).trans ?_
    rw [View.writes_nil, read_unread_whole]
    have e : y = ix2 (⟨8 - k + r.val, by omega⟩ : Fin 520) j := by
      rw [eq_ix2 y]
      congr 1
      · exact Fin.ext hy0
      · exact Fin.ext hy1
    rw [e]
    refine (carry_at m c ⟨t.val - 1, hp⟩ ⟨8 - k + r.val, by omega⟩ j).trans ?_
    refine congrArg (fun q => preB m c ⟨t.val - 1, hp⟩ (ix2 q j)) (Fin.ext ?_)
    show 504 + (8 - k + r.val) = (512 + r.val - k) % 512
    omega
  · rw [dif_neg hr]
    exact (View.read_writes_cons_rows_of_mem (d := ![520, 2688]) (o := 8) _ _ inb_S520x2688_S512x2688_8_0 _ _ y
      (ix2 (⟨r.val - k, by omega⟩ : Fin 512) j) rfl (by rw [hy0]; show _ = 8 + (r.val - k); omega) hy1).trans
      (congrFun (pay6_eq' _ _ _) _)

end Cert.Kernel3Ideal.Ffn
end
-- ==== Proof.Ffn0.Blocks.lean ====
module

public import proofs.«01_k».proof.Proof.Ffn0.Scratch

@[expose] public section

set_option maxRecDepth 16384

noncomputable section

namespace Cert.Kernel3Ideal.Ffn

open Cert.Kernel3Ideal Cert.Kernel3Ideal.Gen Idealize.ShloMosaic Idealize.ShloMosaic.TcCoe Idealize.SL.Sem

variable (m : (ℓ : Loc nD τ sig) → Buf (Elt Ideal) ℓ)

/-- The windows' block positions at every point, and the number of points. -/
theorem idx : ∀ t : Fin cfg0.N, win0_0.index t = ![t.val / 16, t.val % 16, 0] ∧ win0_1.index t = ![0, 0, 0]
    ∧ win0_2.index t = ![0, 0, 0] ∧ win0_3.index t = ![0, 0, 0] ∧ win0_4.index t = ![0, 0, 0] ∧ win0_5.index t = ![0, 0, 0]
    ∧ win0_6.index t = ![0, 0] ∧ win0_7.index t = ![t.val / 16, t.val % 16, 0] ∧ t.val < 128 :=
  (by decide +kernel : ∀ t : Fin grid0.N, _)

theorem lt_N (t : Fin cfg0.N) : t.val < 128 := (idx t).2.2.2.2.2.2.2.2

theorem x_at (c : Dev nD) (t : Fin cfg0.N) (r : Fin 512) (x : Fin 1024) :
    iblk m c 0 t (ix3 0 r x : S1x512x1024.Idx) = m ((c : Thread nD τ).loc main_arg0)
      (ix3 (⟨t.val / 16, by have := lt_N t; omega⟩ : Fin 8) (⟨t.val % 16 * 512 + r.val, by omega⟩ : Fin 8192) x) := by
  blk_point [iblk, V, idx t]
theorem nf_at (c : Dev nD) (t : Fin cfg0.N) (x : Fin 1024) :
    iblk m c 1 t (ix3 0 0 x : S1x1x1024.Idx) = m ((c : Thread nD τ).loc main_arg1) (ix2 0 x) := by
  blk_point [iblk, V, idx t]
theorem wg_at (c : Dev nD) (t : Fin cfg0.N) (x : Fin 1024) (j : Fin 2688) :
    iblk m c 2 t (ix3 0 x (⟨j.val, by omega⟩ : Fin 5376) : S1x1024x5376.Idx) = m ((c : Thread nD τ).loc main_arg2) (ix3 0 x j) := by
  blk_simp [iblk]
  entry_read
  pointwise
  refine (dif_pos (by blk_simp [idx t]; exact j.isLt)).trans ?_
  blk_ext [idx t]
theorem wv_at (c : Dev nD) (t : Fin cfg0.N) (x : Fin 1024) (j : Fin 2688) :
    iblk m c 2 t (ix3 0 x (⟨2688 + j.val, by omega⟩ : Fin 5376) : S1x1024x5376.Idx) = m ((c : Thread nD τ).loc main_arg3) (ix3 0 x j) := by
  blk_simp [iblk]
  entry_read
  pointwise
  refine (dif_neg (by blk_simp [idx t]; exact Nat.not_lt.mpr (Nat.le_add_right 2688 j.val))).trans ?_
  blk_ext [idx t]
theorem cw_at (c : Dev nD) (t : Fin cfg0.N) (k : Fin 3) (j : Fin 2688) :
    iblk m c 3 t (ix3 0 k j : S1x3x2688.Idx) = m ((c : Thread nD τ).loc main_arg4) (ix3 0 k j) := by
  blk_point [iblk, V, idx t]
theorem cb_at (c : Dev nD) (t : Fin cfg0.N) (j : Fin 2688) :
    iblk m c 4 t (ix3 0 0 j : S1x1x2688.Idx) = m ((c : Thread nD τ).loc main_arg5) (ix2 0 j) := by
  blk_point [iblk, V, idx t]
theorem wd_at (c : Dev nD) (t : Fin cfg0.N) (j : Fin 2688) (d : Fin 1024) :
    iblk m c 5 t (ix3 0 j d : S1x2688x1024.Idx) = m ((c : Thread nD τ).loc main_arg6) (ix3 0 j d) := by
  blk_point [iblk, V, idx t]
/-- Point `t`'s sequence and the position in it of the block's row `r`. -/
abbrev seqOf (t : Fin cfg0.N) : Fin 8 := ⟨t.val / 16, by have := lt_N t; omega⟩
abbrev posOf (t : Fin cfg0.N) (r : Fin 512) : Fin 8192 := ⟨t.val % 16 * 512 + r.val, by omega⟩

theorem preB_at (c : Dev nD) (t : Fin cfg0.N) (r : Fin 512) (j : Fin 2688) :
    preB m c t (ix2 r j) = Cert.Ffn.pre 0 (m ((c : Thread nD τ).loc main_arg0)) (m ((c : Thread nD τ).loc main_arg1))
      (m ((c : Thread nD τ).loc main_arg2)) (seqOf t) (posOf t r) j :=
  (pay4_at (iblk m c 0 t) (iblk m c 1 t) (iblk m c 2 t) r j).trans
    (Cert.Ffn.proj_congr (fun x => x_at m c t r x) (fun x => nf_at m c t x) (fun x => wg_at m c t x j))

/-- The buffer's earlier rows are the projections at the earlier positions of the sequence. -/
theorem tileBack_at (c : Dev nD) (t : Fin cfg0.N) (k : ℕ) (hk : k ≤ 8) (r : Fin 512) (j : Fin 2688) :
    tileBack m c t k r j = Cert.Ffn.back 0 (m ((c : Thread nD τ).loc main_arg0)) (m ((c : Thread nD τ).loc main_arg1))
      (m ((c : Thread nD τ).loc main_arg2)) k (seqOf t) (posOf t r) j := by
  have hN := lt_N t
  unfold tileBack Cert.Ffn.back
  by_cases hr : r.val < k
  · rw [dif_pos hr]
    by_cases h0 : t.val % 16 = 0
    · rw [if_pos h0, if_pos (show t.val % 16 * 512 + r.val < k by omega)]
      exact Cert.Ffn.zero_eq
    · rw [if_neg h0, if_neg (show ¬ t.val % 16 * 512 + r.val < k by omega)]
      refine (preB_at m c _ _ j).trans ?_
      refine congrArg₂ (fun a b => Cert.Ffn.pre 0 _ _ _ a b j) (Fin.ext ?_) (Fin.ext ?_)
      · show (t.val - 1) / 16 = t.val / 16
        omega
      · show (t.val - 1) % 16 * 512 + (512 + r.val - k) % 512 = t.val % 16 * 512 + r.val - k
        omega
  · rw [dif_neg hr, if_neg (show ¬ t.val % 16 * 512 + r.val < k by omega)]
    refine (preB_at m c _ _ j).trans ?_
    refine congrArg (fun b => Cert.Ffn.pre 0 _ _ _ (seqOf t) b j) (Fin.ext ?_)
    show t.val % 16 * 512 + (r.val - k) = t.val % 16 * 512 + r.val - k
    omega

end Cert.Kernel3Ideal.Ffn
end
-- ==== Proof.Ffn0.Ref.lean ====
module

public import proofs.«01_k».proof.Proof.Gen.Reference3Ideal.Run
public import proofs.«01_k».proof.Proof.Ffn.Spec

@[expose] public section

set_option maxRecDepth 16384

noncomputable section

namespace Cert.Reference3Ideal.Ffn

open Cert.Reference3Ideal Cert.Reference3Ideal.Gen Idealize.ShloMosaic Idealize.ShloMosaic.TcCoe Idealize.SL.Sem

/-- The reference's normalisation of every row, weighted by `W`. -/
def rNorm (X : FVec Ideal S8x8192x1024 .f32) (W : FVec Ideal S1024 .f32) : FVec Ideal S8x8192x1024 .f32 :=
  mulf (mulf X (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf X X) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 W))

/-- The reference's projection of the normalised rows. -/
def rPre (X : FVec Ideal S8x8192x1024 .f32) (NF : FVec Ideal S2x1024 .f32) (W : FVec Ideal S2x1024x2688 .f32) :
    FVec Ideal S8x8192x2688 .f32 :=
  Host.dotGeneral dot_S8x8192x1024_S1024x2688_S8x8192x2688_2_0_01_1_n_n none (rNorm X (shapeCast _ (extractStridedSlice S1x1024 ![0, 0] NF slices_S2x1024_S1x1024_0_0) shapeCasts_S1x1024_S1024)) (shapeCast _ (extractStridedSlice S1x1024x2688 ![0, 0, 0] W slices_S2x1024x2688_S1x1024x2688_0_0_0) shapeCasts_S1x1024x2688_S1024x2688)

/-- The projection with two rows of zeros before it. -/
def rPad (X : FVec Ideal S8x8192x1024 .f32) (NF : FVec Ideal S2x1024 .f32) (WG : FVec Ideal S2x1024x2688 .f32) :
    FVec Ideal S8x8194x2688 .f32 :=
  pad S8x8194x2688 ![0, 2, 0] ![0, 0, 0] ![0, 0, 0] (rPre X NF WG) (sitofp .f32 (constantI S_ 32 0#32)) pads_S8x8192x2688_S8x8194x2688_000_200_000 h_S_

/-- The reference's gate before its activation. -/
def rGate (X : FVec Ideal S8x8192x1024 .f32) (NF : FVec Ideal S2x1024 .f32) (WG : FVec Ideal S2x1024x2688 .f32)
    (CW : FVec Ideal S2x3x2688 .f32) (CB : FVec Ideal S2x2688 .f32) : FVec Ideal S8x8192x2688 .f32 :=
  addf (addf (addf (broadcastInDim S8x8192x2688 ![0, 1, 2] bcast_S1x1x2688_S8x8192x2688_0_1_2 (broadcastInDim S1x1x2688 ![2] bcast_S2688_S1x1x2688_2 (shapeCast _ (extractStridedSlice S1x2688 ![0, 0] CB slices_S2x2688_S1x2688_0_0) shapeCasts_S1x2688_S2688))) (mulf (extractStridedSlice S8x8192x2688 ![0, 2, 0] (rPad X NF WG) slices_S8x8194x2688_S8x8192x2688_0_2_0) (broadcastInDim S8x8192x2688 ![0, 1, 2] bcast_S1x1x2688_S8x8192x2688_0_1_2 (broadcastInDim S1x1x2688 ![2] bcast_S2688_S1x1x2688_2 (shapeCast _ (extractStridedSlice S1x2688 ![2, 0] (shapeCast S3x2688 (extractStridedSlice S1x3x2688 ![0, 0, 0] CW slices_S2x3x2688_S1x3x2688_0_0_0) shapeCasts_S1x3x2688_S3x2688) slices_S3x2688_S1x2688_2_0) shapeCasts_S1x2688_S2688))))) (mulf (extractStridedSlice S8x8192x2688 ![0, 0, 0] (rPad X NF WG) slices_S8x8194x2688_S8x8192x2688_0_0_0) (broadcastInDim S8x8192x2688 ![0, 1, 2] bcast_S1x1x2688_S8x8192x2688_0_1_2 (broadcastInDim S1x1x2688 ![2] bcast_S2688_S1x1x2688_2 (shapeCast _ (extractStridedSlice S1x2688 ![0, 0] (shapeCast S3x2688 (extractStridedSlice S1x3x2688 ![0, 0, 0] CW slices_S2x3x2688_S1x3x2688_0_0_0) shapeCasts_S1x3x2688_S3x2688) slices_S3x2688_S1x2688_0_0) shapeCasts_S1x2688_S2688))))) (mulf (extractStridedSlice S8x8192x2688 ![0, 1, 0] (rPad X NF WG) slices_S8x8194x2688_S8x8192x2688_0_1_0) (broadcastInDim S8x8192x2688 ![0, 1, 2] bcast_S1x1x2688_S8x8192x2688_0_1_2 (broadcastInDim S1x1x2688 ![2] bcast_S2688_S1x1x2688_2 (shapeCast _ (extractStridedSlice S1x2688 ![1, 0] (shapeCast S3x2688 (extractStridedSlice S1x3x2688 ![0, 0, 0] CW slices_S2x3x2688_S1x3x2688_0_0_0) shapeCasts_S1x3x2688_S3x2688) slices_S3x2688_S1x2688_1_0) shapeCasts_S1x2688_S2688))))

/-- The reference's rows. -/
def rRow (X : FVec Ideal S8x8192x1024 .f32) (NF : FVec Ideal S2x1024 .f32) (WG WV : FVec Ideal S2x1024x2688 .f32)
    (CW : FVec Ideal S2x3x2688 .f32) (CB : FVec Ideal S2x2688 .f32) (WD : FVec Ideal S2x2688x1024 .f32) :
    FVec Ideal S8x8192x1024 .f32 :=
  addf X (Host.dotGeneral dot_S8x8192x2688_S2688x1024_S8x8192x1024_2_0_01_1_n_n none (mulf (mulf (rGate X NF WG CW CB) (mulf (broadcastInDim S8x8192x2688 ![] bcast_S_S8x8192x2688 (constant S_ .f32 0x3F000000#32)) (addf (broadcastInDim S8x8192x2688 ![] bcast_S_S8x8192x2688 (constant S_ .f32 0x3F800000#32)) (Host.tanh (mulf (broadcastInDim S8x8192x2688 ![] bcast_S_S8x8192x2688 (constant S_ .f32 0x3F4C422A#32)) (addf (rGate X NF WG CW CB) (mulf (broadcastInDim S8x8192x2688 ![] bcast_S_S8x8192x2688 (constant S_ .f32 0x3D372713#32)) (mulf (mulf (rGate X NF WG CW CB) (rGate X NF WG CW CB)) (rGate X NF WG CW CB))))))))) (rPre X NF WV)) (shapeCast _ (extractStridedSlice S1x2688x1024 ![0, 0, 0] WD slices_S2x2688x1024_S1x2688x1024_0_0_0) shapeCasts_S1x2688x1024_S2688x1024))

theorem rNorm_at (X : FVec Ideal S8x8192x1024 .f32) (W : FVec Ideal S1024 .f32) (b : Fin 8) (t : Fin 8192) (d : Fin 1024) :
    rNorm X W (ix3 b t d) = X (ix3 b t d) * Cert.Ffn.rinv (fun x => X (ix3 b t x)) * W (ix1 d) := by
  pointwise [rNorm, Cert.Ffn.rinv]

theorem rPre_at (X : FVec Ideal S8x8192x1024 .f32) (NF : FVec Ideal S2x1024 .f32) (W : FVec Ideal S2x1024x2688 .f32)
    (b : Fin 8) (t : Fin 8192) (j : Fin 2688) :
    rPre X NF W (ix3 b t j) = Cert.Ffn.pre 0 X NF W b t j := by
  refine Eq.trans ?_ (Cert.Ffn.proj_eq _ _ _)
  pointwise [rPre]
  refine Finset.sum_congr rfl fun x _ => ?_
  rw [rNorm_at]
  pointwise []

theorem rPad_at (X : FVec Ideal S8x8192x1024 .f32) (NF : FVec Ideal S2x1024 .f32) (WG : FVec Ideal S2x1024x2688 .f32)
    (b : Fin 8) (t : Fin 8194) (j : Fin 2688) :
    rPad X NF WG (ix3 b t j) = if h : t.val < 2 then 0 else Cert.Ffn.pre 0 X NF WG b ⟨t.val - 2, by omega⟩ j := by
  pointwise [rPad]
  by_cases h : t.val < 2
  · rw [dif_neg (by omega), dif_pos h]
    exact (by norm_num : (((0#32).toInt : ℝ) : EReal) = 0)
  · rw [dif_pos ⟨by omega, by omega⟩, dif_neg h, rPre_at]

theorem rGate_at (X : FVec Ideal S8x8192x1024 .f32) (NF : FVec Ideal S2x1024 .f32) (WG : FVec Ideal S2x1024x2688 .f32)
    (CW : FVec Ideal S2x3x2688 .f32) (CB : FVec Ideal S2x2688 .f32) (b : Fin 8) (t : Fin 8192) (j : Fin 2688) :
    rGate X NF WG CW CB (ix3 b t j) = Cert.Ffn.gate 0 X NF WG CW CB b t j := by
  pointwise [rGate]
  rw [rPad_at, rPad_at, rPad_at, Cert.Ffn.gate]
  have h2 : (if h : 2 + t.val < 2 then (0 : EReal) else Cert.Ffn.pre 0 X NF WG b ⟨2 + t.val - 2, by omega⟩ j)
      = Cert.Ffn.pre 0 X NF WG b t j := by
    rw [dif_neg (by omega)]; congr 1; ext; simp
  have h0 : (if h : t.val < 2 then (0 : EReal) else Cert.Ffn.pre 0 X NF WG b ⟨t.val - 2, by omega⟩ j)
      = Cert.Ffn.back 0 X NF WG 2 b t j := by
    unfold Cert.Ffn.back; split <;> rfl
  have h1 : (if h : 1 + t.val < 2 then (0 : EReal) else Cert.Ffn.pre 0 X NF WG b ⟨1 + t.val - 2, by omega⟩ j)
      = Cert.Ffn.back 0 X NF WG 1 b t j := by
    unfold Cert.Ffn.back
    by_cases h : t.val < 1
    · rw [dif_pos (by omega), if_pos h]
    · rw [dif_neg (by omega), if_neg h]; congr 1; ext; simp; omega
  exact congrArg₂ (· + ·) (congrArg₂ (· + ·) (congrArg₂ (· + ·) rfl (congrArg (· * _) h2)) (congrArg (· * _) h0))
    (congrArg (· * _) h1)

theorem rRow_at (X : FVec Ideal S8x8192x1024 .f32) (NF : FVec Ideal S2x1024 .f32) (WG WV : FVec Ideal S2x1024x2688 .f32)
    (CW : FVec Ideal S2x3x2688 .f32) (CB : FVec Ideal S2x2688 .f32) (WD : FVec Ideal S2x2688x1024 .f32)
    (b : Fin 8) (t : Fin 8192) (d : Fin 1024) :
    rRow X NF WG WV CW CB WD (ix3 b t d) = Cert.Ffn.row 0 X NF WG WV CW CB WD b t d := by
  pointwise [rRow]
  refine congrArg _ (Finset.sum_congr rfl fun x _ => ?_)
  rw [rGate_at, rPre_at, Cert.Ffn.gel, mul_assoc (Cert.Ffn.gate 0 X NF WG CW CB b t x) (Cert.Ffn.gate 0 X NF WG CW CB b t x)]

theorem res_eq (m : (ℓ : Loc nD τ sig) → Buf (Elt Ideal) ℓ) (c : Dev nD) :
    Value.res_main_v66 m c = rRow (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-- What the reference's result holds at an index. -/
theorem res_at (m : (ℓ : Loc nD τ sig) → Buf (Elt Ideal) ℓ) (c : Dev nD) (b : Fin 8) (t : Fin 8192) (d : Fin 1024) :
    Value.res_main_v66 m c (ix3 b t d) = Cert.Ffn.row 0 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) b t d := by
  rw [res_eq]
  exact rRow_at _ _ _ _ _ _ _ b t d

end Cert.Reference3Ideal.Ffn
end
-- ==== Proof.Ffn0.Value.lean ====
module

public import proofs.«01_k».proof.Proof.Ffn0.Blocks
public import proofs.«01_k».proof.Proof.Ffn0.Ref

@[expose] public section

set_option maxRecDepth 16384

noncomputable section

namespace Cert.Kernel3Ideal.Ffn

open Cert.Kernel3Ideal Cert.Kernel3Ideal.Value Cert.Kernel3Ideal.Gen Idealize.ShloMosaic Idealize.ShloMosaic.TcCoe Idealize.SL.Sem

variable (m : (ℓ : Loc nD τ sig) → Buf (Elt Ideal) ℓ)

/-- What the call computes from its first seven arguments, at one position and channel. -/
abbrev outOf (c : Dev nD) (b : Fin 8) (t : Fin 8192) (d : Fin 1024) : EReal :=
  Cert.Ffn.row 0 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) b t d

/-- The block that a grid point leaves in the output window, whatever the two earlier rows were read from. -/
theorem block_at (c : Dev nD) (t : Fin cfg0.N) (v37 v42 : FVec Ideal S512x2688 .f32) (r : Fin 512) (d : Fin 1024)
    (h37 : ∀ j, v37 (ix2 r j) = tileBack m c t 2 r j) (h42 : ∀ j, v42 (ix2 r j) = tileBack m c t 1 r j) :
    k0_pay11 (F := Ideal) (k0_pay2 (iblk m c 0 t)) (k0_pay4 (iblk m c 0 t) (iblk m c 1 t) (iblk m c 2 t))
        (k0_pay5 (iblk m c 0 t) (iblk m c 1 t) (iblk m c 2 t)) (k0_pay7 (iblk m c 3 t)) (k0_pay8 (iblk m c 4 t))
        (k0_pay9 (iblk m c 3 t)) v37 v42 (iblk m c 5 t) (ix3 0 r d)
      = outOf m c (seqOf t) (posOf t r) d :=
  point_at (iblk m c 0 t) (iblk m c 1 t) (iblk m c 2 t) (iblk m c 3 t) (iblk m c 4 t) (iblk m c 5 t) v37 v42
    _ _ _ _ _ _ _ (seqOf t) (posOf t r) r d (fun x => x_at m c t r x) (fun x => nf_at m c t x)
    (fun x j => wg_at m c t x j) (fun x j => wv_at m c t x j) (fun k j => cw_at m c t k j) (fun j => cb_at m c t j)
    (fun j d => wd_at m c t j d)
    (fun j => (h37 j).trans (tileBack_at m c t 2 (by omega) r j)) (fun j => (h42 j).trans (tileBack_at m c t 1 (by omega) r j))

theorem readCov_at (L : List (View.Piece (Elt Ideal) S520x2688 .f32)) (B : LoadRect S520x2688) (x : B.shape.Idx) :
    (View.whole cc0_scratch0).readCov L B x
      = (View.whole cc0_scratch0).read (Elt Ideal) ((View.whole cc0_scratch0).writes (Elt Ideal) (View.whole cc0_scratch0).junk L) (B.idx x) := rfl

/-- A row read at a sequence's first point is zero or one of the point's own. -/
theorem covA (c : Dev nD) (t : Fin cfg0.N) (h0 : t.val % 16 = 0) (k n : ℕ) (hk : k ≤ 8) (hn : n = 8 - k)
    (inb : ∀ a, (![n, 0] : Fin 2 → ℕ) a + (![512, 2688] : Fin 2 → ℕ) a ≤ S520x2688.size a) (r : Fin 512) (j : Fin 2688) :
    (View.whole cc0_scratch0).readCov (Val := Elt Ideal)
      [⟨Rect.unit ![8, 0] ![512, 2688] inb_S520x2688_S512x2688_8_0, k0_pay6 (iblk m c 0 t) (iblk m c 1 t) (iblk m c 2 t)⟩,
       ⟨Rect.unit ![0, 0] ![8, 2688] inb_S520x2688_S8x2688_0_0, k0_pay1 (F := Ideal)⟩]
      (Rect.unit (s := S520x2688) ![n, 0] ![512, 2688] inb).toLoadRect (ix2 r j : S512x2688.Idx) = tileBack m c t k r j := by
  rw [readCov_at]
  exact loadA m c t h0 k hk _ r j _ (by show n + 1 * r.val = _; omega) (by show 0 + 1 * j.val = _; omega)

/-- A row read at a later point is the point's own or one of the point's before it. -/
theorem covB (c : Dev nD) (t : Fin cfg0.N) (h0 : ¬ t.val % 16 = 0) (k n : ℕ) (hk : k ≤ 8) (hn : n = 8 - k)
    (hw : (Memref.whole cc0_scratch0).IsWhole) (hp : t.val - 1 < cfg0.N)
    (inb : ∀ a, (![n, 0] : Fin 2 → ℕ) a + (![512, 2688] : Fin 2 → ℕ) a ≤ S520x2688.size a) (r : Fin 512) (j : Fin 2688) :
    View.ld ((View.whole cc0_scratch0).read (Elt Ideal)
      ((View.whole cc0_scratch0).writes (Elt Ideal) (hw.unread (outsAt0 m c (t.val - 1) hp).2)
        [⟨Rect.unit ![8, 0] ![512, 2688] inb_S520x2688_S512x2688_8_0, k0_pay6 (iblk m c 0 t) (iblk m c 1 t) (iblk m c 2 t)⟩]))
      (Rect.unit (s := S520x2688) ![n, 0] ![512, 2688] inb) (ix2 r j : S512x2688.Idx) = tileBack m c t k r j :=
  loadB m c t h0 k hk hw hp r j _ (by show n + 1 * r.val = _; omega) (by show 0 + 1 * j.val = _; omega)

theorem point (c : Dev nD) (t : Fin cfg0.N) (r : Fin 512) (d : Fin 1024) :
    (outsAt0 m c t.val t.isLt).1 (ix3 0 r d) = outOf m c (seqOf t) (posOf t r) d := by
  by_cases h0 : t.val % 16 = 0
  · rw [outsAt0_A m c t h0]
    frame_out
    exact block_at m c t _ _ r d (fun j => covA m c t h0 2 6 (by omega) rfl _ r j) (fun j => covA m c t h0 1 7 (by omega) rfl _ r j)
  · rw [outsAt0_B m c t h0]
    frame_out
    exact block_at m c t _ _ r d (fun j => covB m c t h0 2 6 (by omega) rfl _ _ _ r j) (fun j => covB m c t h0 1 7 (by omega) rfl _ _ _ r j)

/-- The array that the call leaves is the layer's formula at every index. -/
theorem result_at (c : Dev nD) (b : Fin 8) (s : Fin 8192) (d : Fin 1024) :
    G7 m c (ix3 b s d : S8x8192x1024.Idx) = outOf m c b s d := by
  have hlt : 16 * b.val + s.val / 512 < cfg0.N := lt_of_lt_of_eq (by omega) N_0.symm
  have hpt : pt7Of (ix3 b s d : S8x8192x1024.Idx) = 16 * b.val + s.val / 512 := by
    show 16 * (b.val / 1 - 0) + 1 * (s.val / 512 - 0) + 1 * (d.val / 1024 - 0) = _
    omega
  have hloc : loc7Of (ix3 b s d : S8x8192x1024.Idx) = ix3 0 (⟨s.val % 512, by omega⟩ : Fin 512) d := by
    funext a
    apply Fin.ext
    match a with
    | ⟨0, _⟩ => show b.val % 1 = 0; omega
    | ⟨1, _⟩ => rfl
    | ⟨2, _⟩ => show d.val % 1024 = d.val; omega
  have hpt' := lt_of_eq_of_lt hpt hlt
  unfold G7
  rw [dif_pos hpt', hloc, fold0_congr m c _ _ _ (lt_of_eq_of_lt (Nat.zero_add _) hlt) hpt, ← outsAt0_sweep m c _ hlt]
  refine (point m c ⟨_, hlt⟩ _ d).trans ?_
  congr 1
  · apply Fin.ext
    show (16 * b.val + s.val / 512) / 16 = b.val
    omega
  · apply Fin.ext
    show (16 * b.val + s.val / 512) % 16 * 512 + s.val % 512 = s.val
    omega

end Cert.Kernel3Ideal.Ffn
end
-- ==== Proof.Mix.Safe.lean ====
/-
  A body that only loads and stores keeps what it is given: whatever a load reads and whatever a store
  leaves, the buffers a memref looks at are held at some contents before and after. `Safe` says so of a
  program, and one rule per construct composes it.
-/
module

public import Idealize.ShloMosaic.Lib.Writes
public import Idealize.ShloMosaic.Lib.Exec.Geometry
public import Idealize.ShloMosaic.Lib.Pipeline.FrameBody
public import Idealize.ShloMosaic.Lib.Tactic

@[expose] public section

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

variable (defs : Defs nD τ sig Val Λ) (c : Dev nD) (I : sProp (MT nD τ sig Unit Val ℕ U ℕ))

/-- A part `S` of the core's buffer at `ℓ`, at some contents. -/
def part_at (ℓ : Loc nD τ sig) (S : Finset (Idx ℓ)) : sProp 𝕄 :=
  iprop(∃ f : Buf Val ℓ, ℓ ↦[S]{fullShare} f)

/-- `I` lends the memref: elements of its buffer, the memref's among them, can be taken out, and any contents of
    theirs may be put back. -/
def Lends {sp : Space} {s : Shape} {e : EltTy} (mr : Memref sig .tc sp s e) : Prop :=
  ∃ S : Finset (Idx (mr.view.loc (c.tc : Thread nD τ))), mr.view.set ⊆ S
    ∧ (I ⊢ iprop(part_at (U := U) (Val := Val) (mr.view.loc (c.tc : Thread nD τ)) S ∗ (part_at (U := U) (Val := Val) (mr.view.loc (c.tc : Thread nD τ)) S -∗ I)))

/-- `p` run from `I` ends in `I`. -/
def Safe {α : Type} (p : Prog (TpuEff nD τ sig Val Λ .tc) α) : Prop :=
  I ⊢ wp frame (wpE (Name := ℕ) (U := U) (Lvl := ℕ) (Ix := Unit) defs Variants.none (c.tc : Thread nD τ) none) Set.univ p (fun _ => I)

variable {defs c I}

theorem Safe.pure {α : Type} (a : α) : Safe defs c I (pure a) := le_wp_ret _ _ _ a (fun _ => I)

theorem Safe.bind {α β : Type} {p : Prog (TpuEff nD τ sig Val Λ .tc) α} {k : α → Prog (TpuEff nD τ sig Val Λ .tc) β}
    (hp : Safe defs c I p) (hk : ∀ a, Safe defs c I (k a)) : Safe defs c I (p >>= k) := by
  unfold Safe
  rw [wp_bind]
  exact hp.trans (wp_mono _ _ _ hk)

theorem Safe.load {cs : CoreSpace} {s : Shape} {e : EltTy} {mr : Memref sig .tc cs s e} {r : LoadRect s} {hl : mr.view.LoadsAt r}
    (h : Lends c I mr) : Safe defs c I (Prog.lift (.load mr r hl)) := by
  obtain ⟨S, hS, h⟩ := h
  unfold part_at at h
  refine h.trans ?_
  iintro ⟨⟨%f, H⟩, Hk⟩
  iapply (wp_load Variants.none (c.tc : Thread nD τ) none Set.univ (m := mr) (r := r) (hl := hl) (S := S) ((Finset.map_subset_map.mpr (Finset.subset_univ _)).trans hS)) $$ H
  iintro H
  iapply le_wp_ret
  iapply Hk
  iexists f
  iexact H

theorem Safe.store {cs : CoreSpace} {s : Shape} {e : EltTy} {mr : Memref sig .tc cs s e} {r : Rect s} {w : r.shape.Idx → Val e}
    {Mk : Finset r.shape.Idx} {hx : (mr.access r).Stores Mk} {hm : Mk = Finset.univ ∨ ∀ a, r.stride a = 1}
    (h : Lends c I mr) : Safe defs c I (Prog.lift (.store mr r w Mk hx hm)) := by
  obtain ⟨S, hS, h⟩ := h
  unfold part_at at h
  refine h.trans ?_
  iintro ⟨⟨%f, H⟩, Hk⟩
  iapply (wp_store Variants.none (c.tc : Thread nD τ) none Set.univ (m := mr) (r := r) (w := w) (Mk := Mk) (hx := hx) (hm := hm) (S := S) ((mr.setOn_access_subset r Mk).trans hS)) $$ H
  iintro H
  iapply le_wp_ret
  iapply Hk
  iexists _
  iexact H

theorem Safe.ite {α : Type} {P : Prop} [Decidable P] {p q : Prog (TpuEff nD τ sig Val Λ .tc) α}
    (hp : P → Safe defs c I p) (hq : ¬ P → Safe defs c I q) : Safe defs c I (if P then p else q) := by
  split
  · exact hp ‹_›
  · exact hq ‹_›

theorem Safe.dite {α : Type} {P : Prop} [Decidable P] {p : P → Prog (TpuEff nD τ sig Val Λ .tc) α} {q : ¬ P → Prog (TpuEff nD τ sig Val Λ .tc) α}
    (hp : ∀ h, Safe defs c I (p h)) (hq : ∀ h, Safe defs c I (q h)) : Safe defs c I (if h : P then p h else q h) := by
  split
  · exact hp _
  · exact hq _

/-- A slice is lent by what lends the memref. -/
theorem Lends.slice {sp : Space} {s : Shape} {e : EltTy} {mr : Memref sig .tc sp s e} {r : Rect s} {hr : ∀ a, r.stride a = 1}
    (h : Lends c I mr) : Lends c I (mr.slice r hr) :=
  ⟨h.choose, (mr.view.set_slice_subset r).trans h.choose_spec.1, h.choose_spec.2⟩

/-- A memref re-indexed by dropping unit axes is lent by what lends the memref. -/
theorem Lends.squeeze {sp : Space} {s s' : Shape} {e : EltTy} {mr : Memref sig .tc sp s e} {hs : s.Squeezes s'}
    (h : Lends c I mr) : Lends c I (mr.squeeze s' hs) :=
  ⟨h.choose, (View.set_reshape_subset mr.view hs.numel_eq subset_rfl).trans h.choose_spec.1, h.choose_spec.2⟩

/-- What is held of a memref at some contents lends it. -/
theorem Lends.owned {sp : Space} {s : Shape} {e : EltTy} {mr : Memref sig .tc sp s e} :
    Lends (Val := Val) (U := U) c iprop(∃ X, owns (c.tc : Thread nD τ) mr fullShare X) mr := by
  refine ⟨mr.view.set, subset_rfl, ?_⟩
  unfold owns part_at
  iintro ⟨%X, %f, %hf, H⟩
  isplitl [H]
  · iexists f
    iexact H
  iintro ⟨%g, H⟩
  iexists (mr.view.read Val g)
  iexists g
  isplitr
  · ipureintro
    rfl
  iexact H

theorem Lends.left {sp : Space} {s : Shape} {e : EltTy} {mr : Memref sig .tc sp s e} {A R : sProp 𝕄} (h : Lends c A mr) :
    Lends c iprop(A ∗ R) mr := by
  obtain ⟨S, hS, h⟩ := h
  refine ⟨S, hS, ?_⟩
  iintro ⟨HA, HR⟩
  ihave H := h $$ HA
  icases H with ⟨H, Hk⟩
  isplitl [H]
  · iexact H
  iintro H
  isplitl [Hk H]
  · iapply Hk
    iexact H
  iexact HR

theorem Lends.right {sp : Space} {s : Shape} {e : EltTy} {mr : Memref sig .tc sp s e} {B R : sProp 𝕄} (h : Lends c R mr) :
    Lends c iprop(B ∗ R) mr := by
  obtain ⟨S, hS, h⟩ := h
  refine ⟨S, hS, ?_⟩
  iintro ⟨HB, HR⟩
  ihave H := h $$ HR
  icases H with ⟨H, Hk⟩
  isplitl [H]
  · iexact H
  iintro H
  isplitl [HB]
  · iexact HB
  iapply Hk
  iexact H

end Cert.Mix

end
-- ==== Proof.Mix.Regions.lean ====
/-
  A kernel region of @main whose results are not named: from the core's buffers at contents that keep some of them as
  they were, it runs to the core's buffers at contents that keep the same ones, whatever it leaves in the others.
-/
module

public import Idealize.ShloMosaic.Lib.Pipeline.Regions
public import Idealize.ShloMosaic.Lib.Pipeline.RegionArraysF
public import Idealize.ShloMosaic.Lib.Pipeline.RegionsLoop
public import Idealize.ShloMosaic.Lib.Pipeline.Frame
public import Idealize.ShloMosaic.Lib.Pipeline.FrameSuffix

@[expose] public section

noncomputable section

namespace Cert.Mix

open Idealize.ShloMosaic Idealize.ShloMosaic.TcCoe
open Idealize.SL Idealize.SL.RA Idealize.SL.BI
open Idealize.SL.BI (sProp bigSep)
open scoped Idealize.SL.BI
open Idealize.SL.BI.BIBase Idealize.SL.BI.Laws Idealize.SL.ProofMode Idealize.SL.Sem
open Idealize.ShloMosaic.Pipeline Idealize.ShloMosaic.Rounds
open Idealize.ShloMosaic.StableHlo (held)

variable {nD : Nat} {τ : Topo} {sig : RefSig} {Val : EltTy → Type} {U : Type} [URA U]

local notation "𝕄" => MT nD τ sig Unit Val ℕ U ℕ

variable {Λ₀ : Labels} {P : Type} [Fintype P] [DecidableEq P] [∀ e, Nonempty (Val e)]

/-- A core's unscoped buffers at the contents `X`, which have the buffers `K` as in `m`, its generator register, nothing
    owed. -/
def keptAt (m : (ℓ : Loc nD τ sig) → Buf Val ℓ) (K : Finset (Ref sig .tc)) (c : Dev nD) (X : Valuation τ sig Val) : sProp 𝕄 :=
  iprop(⌜∀ b ∈ K, X (Proc.devRef .tc b) = m ((c.tc : Thread nD τ).loc b)⌝
    ∗ held (c.tc : Thread nD τ) (ucRefs τ sig) X ∗ (∃ r, prngReg c r) ∗ ∃ Wd, owes (c.tc : Thread nD τ) (0 : CellTallies nD τ sig Unit) Wd)

/-- What is kept of a core: the same at some contents. -/
def kept (m : (ℓ : Loc nD τ sig) → Buf Val ℓ) (K : Finset (Ref sig .tc)) (c : Dev nD) : sProp 𝕄 :=
  iprop(∃ X : Valuation τ sig Val, keptAt m K c X)

omit [Fintype P] [DecidableEq P] in
/-- The arrays after a region, every window forgotten: an array no window writes back is as it was. -/
theorem arraysAt_kept {cfg : Cfg sig Λ₀} {c : Dev nD} (dat : Dat τ Val Unit ℕ U ℕ cfg c) (n : Nat) :
    ((dat.toRForget fun _ => true).arraysAt n : sProp 𝕄) ⊢ iprop(∃ A : (w : Fin cfg.W) → Buf Val ((cfg.win w).arr.view.loc (c.tc : Thread nD τ)),
      ⌜∀ w, (cfg.win w).isOut = false → A w = dat.A w⌝ ∗ dat.arrays A) := by
  unfold RDat.arraysAt Dat.arrays
  refine (BI.bigSep_exists_pi Finset.univ _).trans ?_
  iintro ⟨%A, H⟩
  ihave H' := (BI.bigSep_pure_sep Finset.univ (fun w => (dat.toRForget fun _ => true).ArrAt w n (A w)) _) $$ H
  icases H' with ⟨%hA, H⟩
  iexists A
  isplitr
  · ipureintro
    intro w hw
    have h := hA w (Finset.mem_univ w)
    rw [(dat.toRForget fun _ => true).ArrAt_in w hw] at h
    exact h
  iexact H

variable (pcs : P → PCfg sig Λ₀ Val) (a : (p : P) → (pcs p).Adm)

/-- The proof data of a region entered at `X`: the arrays as it finds them, the class invariant at every point, each
    input window its share of its array. -/
def dat (X : Valuation τ sig Val) (q : P) (c : Dev nD) : Dat τ Val Unit ℕ U ℕ (pin pcs a q) c where
  A w := X (Proc.devRef .tc (arrRef (pin pcs a q).spec w))
  after _ _ := fun _ => Classical.arbitrary _
  Φ _ := ΦA (pin pcs a q).spec c
  q w := shareOf (pin pcs a q).spec w
  owed _ := 0

variable (defs₀ : Defs nD τ sig Val Λ₀) (𝒱₀ : Variants)
  (L : GSem nD τ sig → Finset Unit) (lv : GSem nD τ sig → Unit → ℕ)
  (m : (ℓ : Loc nD τ sig) → Buf Val ℓ) (K : Finset (Ref sig .tc)) {p : P}
  (kit : PLaunchFacts₀ (nD := nD) (τ := τ) pcs p) (hpre : (pcs p).pre.K = 0)
  (hK : ∀ w, ((pin pcs a p).win w).isOut = true → arrRef (pin pcs a p).spec w ∉ K)
  (hbody : ∀ (X : Valuation τ sig Val) (c : Dev nD),
    BodyObligationLoose (dat (U := U) pcs a X p c) defs₀ 𝒱₀ () Set.univ fun _ => true)

/-- The region's record at the contents `X`. -/
def seg (X : Valuation τ sig Val) :
    RDat.RegionSeg pcs a (fun q c => (dat (U := U) pcs a X q c).toRForget fun _ => true) () defs₀ 𝒱₀ L lv p where
  win := kit.win
  block_pos := kit.block_pos
  stage_whole := kit.stage_whole
  K := PEmpty
  osem := fun k => k.elim
  ho := OwnSemFacts.none _
  hbody c := (hbody X c).toRForget
  hwaits c := RDat.hwaits_of_owed_zero pcs a _ () L lv p (fun _ _ => rfl) c
  pre c := keptAt m K c X
  post c := kept m K c
  X c := iprop(∃ r, prngReg c r)
  Y c := iprop(∃ r, prngReg c r)
  Z c := iprop(⌜∀ b ∈ K, X (Proc.devRef .tc b) = m ((c.tc : Thread nD τ).loc b)⌝ ∗ unscopedRest (pin pcs a p).spec c fun b => X (Proc.devRef .tc b))
  hentry c := by
    show _ ⊢ |={Set.univ}=> iprop((dat (U := U) pcs a X p c).arrays ((dat (U := U) pcs a X p c).arrAt · 0) ∗ prefHeld (pcs p).pre c (fun _ => fullShare) (a p).1
        ∗ (dat (U := U) pcs a X p c).owesAt () 0 ∗ _ ∗ _)
    unfold keptAt
    rw [prefHeld_of_none _ hpre, ← unscopedBufs_held]
    iintro ⟨⟨%h, Hh, Hp, HO⟩, -, -⟩
    ihave Ha := (arrays_of_unscopedBufs_shared pcs a (dat (U := U) pcs a X) kit.win kit.sharedIn kit.arr_whole c (fun _ _ => rfl) (fun b => X (Proc.devRef .tc b)) (fun _ => rfl)) $$ Hh
    icases Ha with ⟨Ha, Hr⟩
    imodintro
    isplitl [Ha]; · iexact Ha
    isplitr; · iempintro
    isplitl [HO]
    · unfold Dat.owesAt owesWithin Dat.bound
      icases HO with ⟨%Wd, HO⟩; iexists Wd; isplitr; · ipureintro; exact fun _ _ => Or.inl trivial
      iexact HO
    isplitl [Hp]; · iexact Hp
    isplitr; · ipureintro; exact h
    iexact Hr
  hin c := by
    show _ ⊢ ΦA (pin pcs a p).spec c
    unfold ΦA
    iintro ⟨Hp, -, Hs⟩
    isplitl [Hs] <;> iassumption
  hout c := by
    show ΦA (pin pcs a p).spec c ⊢ _
    unfold ΦA
    rw [ownSems0_none]
    iintro ⟨Hs, Hp⟩
    isplitl [Hp]; · iexact Hp
    isplitr; · iempintro
    iexact Hs
  hexit c := by
    show iprop(((dat (U := U) pcs a X p c).toRForget fun _ => true).arraysAt (pin pcs a p).N ∗ (dat (U := U) pcs a X p c).owesAt () (Fin.last (pin pcs a p).N) ∗ _ ∗ _) ⊢ _
    iintro ⟨Ha, HO, Hp, %h, Hr⟩
    ihave Ha := (arraysAt_kept (dat (U := U) pcs a X p c) (pin pcs a p).N) $$ Ha
    icases Ha with ⟨%A, %hA, Ha⟩
    have hAV : ∀ w w', w ≠ w' → arrRef (pin pcs a p).spec w = arrRef (pin pcs a p).spec w' → A w = X (Proc.devRef .tc (arrRef (pin pcs a p).spec w)) :=
      fun w w' hne e => hA w (kit.sharedIn w w' hne e)
    have hbufs := unscopedBufs_of_arrays_shared pcs a kit.win kit.sharedIn kit.arr_whole c (dat (U := U) pcs a X) (fun _ _ => rfl)
      (fun b => X (Proc.devRef .tc b)) (fun b => withArrays (pin pcs a p).spec c X A (Proc.devRef .tc b)) A
      (fun w => (withArrays_arr_shared (pin pcs a p).spec c X A hAV w).symm)
      (fun b hb => withArrays_of_ne (pin pcs a p).spec c X A b fun w e => hb (Finset.mem_image.mpr ⟨w, Finset.mem_univ w, e⟩))
    ihave Hb := hbufs $$ [Ha Hr]
    · isplitl [Ha] <;> iassumption
    imodintro
    unfold kept keptAt
    iexists (withArrays (pin pcs a p).spec c X A)
    isplitr
    · ipureintro
      intro b hb
      rw [← h b hb]
      by_cases hw : ∃ w, arrRef (pin pcs a p).spec w = b
      · obtain ⟨w, rfl⟩ := hw
        rw [withArrays_arr_shared (pin pcs a p).spec c X A hAV w]
        refine hA w ?_
        by_contra hout
        exact hK w (by simpa using hout) hb
      · exact withArrays_of_ne (pin pcs a p).spec c X A b fun w e => hw ⟨w, e⟩
    isplitl [Hb]
    · rw [← unscopedBufs_held]; iexact Hb
    isplitl [Hp]; · iexact Hp
    unfold Dat.owesAt owesWithin
    icases HO with ⟨%Wd, -, HO⟩; iexists Wd; iexact HO

variable (phinj : Function.Injective (cellOf (nD := nD) (τ := τ) (pin pcs a)))
  (EP : Emb (URounds (GSem nD τ sig) Unit) (MT nD τ sig Unit Val ℕ U ℕ)) [EP.LandsIn (upEmb : UEmb _ (MT nD τ sig Unit Val ℕ U ℕ))]

/-- The region's ghost state on core `c`. -/
def ghost (q : P) (c : Dev nD) : sProp 𝕄 := iprop(cellsGhost (pin pcs a) EP q c ∗ toksInit (pin pcs a) EP q c)

/-- The region as a segment of @main: what is kept of a core is kept, its ghost state consumed, `R` beside. -/
def region (R : Dev nD → sProp (MT nD τ sig Unit Val ℕ U ℕ)) : HostSeg (Ix := Unit) (Name := ℕ) (U := U) (Lvl := ℕ) pcs defs₀ 𝒱₀ L lv where
  prog := Prog.lift (.customCall (entry p) ())
  pre c := iprop(kept m K c ∗ ghost pcs a EP p c ∗ R c)
  post c := iprop(kept m K c ∗ R c)
  run c {β} k Q := by
    unfold ghost
    iintro ⟨Hk, Hbd, ⟨Hkept, ⟨Hg, Ht⟩, HR⟩, Hla⟩
    ihave Hkept := (Entails.of_eq (show kept m K c = iprop(∃ X : Valuation τ sig Val, keptAt m K c X) from rfl)) $$ Hkept
    icases Hkept with ⟨%X, Hkept⟩
    have h : iprop((boundary (c.tc : Thread nD τ) ∗ kept m K c -∗ wp frame (wpE (defs pcs defs₀) 𝒱₀.lift (c.tc : Thread nD τ) none) Set.univ (k ⟨⟩) Q)
        ∗ boundary (c.tc : Thread nD τ) ∗ keptAt m K c X ∗ levAts L lv ∗ cellsGhost (pin pcs a) EP p c ∗ toksInit (pin pcs a) EP p c)
        ⊢ wp frame (wpE (defs pcs defs₀) 𝒱₀.lift (c.tc : Thread nD τ) none) Set.univ (Prog.lift (.customCall (entry p) ()) >>= k) Q :=
      (seg (U := U) pcs a defs₀ 𝒱₀ L lv m K kit hpre hK hbody X).wp pcs a _ () phinj EP defs₀ 𝒱₀ L lv c none
        (fun _ h => nomatch h) k Q
    iapply h
    isplitl [Hk HR]
    · iintro ⟨Hbd, Hpost⟩
      iapply Hk
      isplitl [Hbd]; · iexact Hbd
      isplitl [Hpost]; · iexact Hpost
      iexact HR
    isplitl [Hbd]; · iexact Hbd
    isplitl [Hkept]; · iexact Hkept
    isplitl [Hla]; · iexact Hla
    isplitl [Hg] <;> iassumption

/-! ## The two ends of the chain of regions -/

/-- What rides beside the host stretches: the generator register, nothing owed, the regions' ghost state. -/
def rest (G : Dev nD → sProp (MT nD τ sig Unit Val ℕ U ℕ)) (c : Dev nD) : sProp 𝕄 :=
  iprop((∃ r, prngReg c r) ∗ (∃ Wd, owes (c.tc : Thread nD τ) (0 : CellTallies nD τ sig Unit) Wd) ∗ G c)

/-- What the launch hands out makes the first thread state on every core. -/
theorem start (G : Dev nD → sProp (MT nD τ sig Unit Val ℕ U ℕ)) (ρ : Dev nD → PrngReg) (W : Dev nD → Valuation τ sig Val)
    (hW : ∀ c, (fun b : Ref sig .tc => W c (Proc.devRef .tc b)) = fun b => m ((c.tc : Thread nD τ).loc b)) :
    iprop((bigSep Finset.univ fun c : Dev nD => iprop(unscopedBufs c (fun b => m ((c.tc : Thread nD τ).loc b)) ∗ unscopedSems0 c
        ∗ owes (c.tc : Thread nD τ) (0 : CellTallies nD τ sig Unit) ∅ ∗ launchCred (fun _ => 0) c ∗ prngReg c (ρ c) ∗ G c)) ∗ levAts L lv)
      ⊢ |={Set.univ}=> bigSep Finset.univ fun c : Dev nD => iprop(held (c.tc : Thread nD τ) (ucRefs τ sig) (W c) ∗ rest G c) := by
  iintro ⟨H, -⟩
  imodintro
  have hc : ∀ c : Dev nD, iprop(unscopedBufs c (fun b => m ((c.tc : Thread nD τ).loc b)) ∗ unscopedSems0 c
        ∗ owes (c.tc : Thread nD τ) (0 : CellTallies nD τ sig Unit) ∅ ∗ launchCred (fun _ => 0) c ∗ prngReg c (ρ c) ∗ G c)
      ⊢ (iprop(held (c.tc : Thread nD τ) (ucRefs τ sig) (W c) ∗ rest G c) : sProp 𝕄) := fun c => by
    rw [← unscopedBufs_held, hW c]
    unfold rest
    iintro ⟨Hh, -, HO, -, Hp, HG⟩
    isplitl [Hh]; · iexact Hh
    isplitl [Hp]; · iexists (ρ c); iexact Hp
    isplitl [HO]; · iexists ∅; iexact HO
    iexact HG
  have hm : (bigSep Finset.univ fun c : Dev nD => iprop(unscopedBufs c (fun b => m ((c.tc : Thread nD τ).loc b)) ∗ unscopedSems0 c
        ∗ owes (c.tc : Thread nD τ) (0 : CellTallies nD τ sig Unit) ∅ ∗ launchCred (fun _ => 0) c ∗ prngReg c (ρ c) ∗ G c))
      ⊢ (bigSep Finset.univ fun c : Dev nD => iprop(held (c.tc : Thread nD τ) (ucRefs τ sig) (W c) ∗ rest G c) : sProp 𝕄) :=
    bigSep_mono fun c _ => hc c
  iapply hm $$ H

/-- After the host stretches: contents that have the buffers `K` as launched are kept, the ghost state beside. -/
theorem kept_of_held (G : Dev nD → sProp (MT nD τ sig Unit Val ℕ U ℕ)) (c : Dev nD) (X : Valuation τ sig Val)
    (hX : ∀ b ∈ K, X (Proc.devRef .tc b) = m ((c.tc : Thread nD τ).loc b)) :
    iprop(held (c.tc : Thread nD τ) (ucRefs τ sig) X ∗ rest G c) ⊢ iprop(kept m K c ∗ G c) := by
  unfold rest kept keptAt
  iintro ⟨Hh, Hp, HO, HG⟩
  isplitr [HG]
  · iexists X
    isplitr; · ipureintro; exact hX
    isplitl [Hh]; · iexact Hh
    isplitl [Hp]; · iexact Hp
    iexact HO
  iexact HG

/-- What is left of a core when @main has ended. -/
def left (c : Dev nD) : sProp 𝕄 :=
  iprop(∃ X : Valuation τ sig Val, ⌜∀ b ∈ K, X (Proc.devRef .tc b) = m ((c.tc : Thread nD τ).loc b)⌝ ∗ held (c.tc : Thread nD τ) (ucRefs τ sig) X)

theorem left_of_kept (c : Dev nD) :
    (kept m K c : sProp 𝕄) ⊢ iprop(left m K c ∗ ∃ Wd, owes (c.tc : Thread nD τ) (0 : CellTallies nD τ sig Unit) Wd) := by
  unfold kept keptAt left
  iintro ⟨%X, %hX, Hh, -, HO⟩
  isplitl [Hh]
  · iexists X
    isplitr; · ipureintro; exact hX
    iexact Hh
  iexact HO

/-- A final state holds the buffers `K` as launched. -/
theorem left_read (hK : ∀ b ∈ K, Proc.devRef .tc b ∈ ucRefs τ sig) (c : Dev nD) (s' : Phys nD τ sig Val) :
    iprop(left m K c ∗ SI s') ⊢ |={Set.univ}=> (iprop(⌜∀ b ∈ K, s'.mem.mem ((c.tc : Thread nD τ).loc b) = m ((c.tc : Thread nD τ).loc b)⌝ ∗ SI s') : sProp 𝕄) := by
  unfold left held
  iintro ⟨⟨%X, %hX, Hh⟩, HSI⟩
  ihave Hr := (pointsTo_read_all (ucRefs τ sig) (fun b => ((c.tc : Thread nD τ).1, b)) X s') $$ [Hh HSI]
  · isplitl [Hh] <;> iassumption
  icases Hr with ⟨%h, HSI⟩
  imodintro
  isplitr
  · ipureintro
    exact fun b hb => (h (Proc.devRef .tc b) (hK b hb)).trans (hX b hb)
  iexact HSI

/-- The launch element, twice: once for the launch theorem, once for the regions' ghost state. -/
theorem fund :
    (ownU ((initOf (cells (pin pcs a) phinj) (launchToks (pin pcs a) phinj)), (initOf (cells (pin pcs a) phinj) (launchToks (pin pcs a) phinj)))
        : sProp (MT nD τ sig Unit Val ℕ (URounds (GSem nD τ sig) Unit × URounds (GSem nD τ sig) Unit) ℕ))
      ⊢ |={Set.univ}=> iprop(BI.own (embL (initOf (cells (pin pcs a) phinj) (launchToks (pin pcs a) phinj)))
        ∗ bigSep Finset.univ fun c : Dev nD => bigSep Finset.univ fun p => ghost pcs a embR p c) := by
  iintro H
  ihave H := (ownU_pair _ _) $$ H
  icases H with ⟨HL, HR⟩
  imod (fund_ghost (pin pcs a) embR phinj) $$ HR with ⟨Hg, Ht⟩
  imodintro
  isplitl [HL]; · iexact HL
  unfold ghost
  simp only [bigSep_sep']
  isplitl [Hg] <;> iassumption

end Cert.Mix

end
-- ==== Proof.Mix.KernelIdealBody0.lean ====
/-
  The body of cc0_mixer0 keeps what it is given: every operation of it is a load or a store, on a memref the invariant
  lends or on a slice of one, so `Safe` is composed operation by operation, whichever way its branches go.
-/
module

public import proofs.«01_k».proof.Proof.Gen.KernelIdeal.Skeleton
public import proofs.«01_k».proof.Proof.Mix.Safe

@[expose] public section

set_option maxRecDepth 65536

noncomputable section

namespace Cert.KernelIdeal.Mix

open Idealize.ShloMosaic Idealize.ShloMosaic.TcCoe
open Idealize.SL Idealize.SL.RA Idealize.SL.BI Idealize.SL.Sem
open Cert.KernelIdeal Cert.KernelIdeal.Gen Cert.Mix

variable {F : FTy → Type} [FloatOps F] {U : Type} [URA U]

set_option maxHeartbeats 40000000 in
/-- The body of region 0, at any invariant that lends its memrefs. -/
theorem body_safe0 (c : Dev nD) (I : sProp (MT nD τ sig Unit (Elt F) ℕ U ℕ)) (i : grid0.Coords)
    (arg1 : Memref sig .tc .vmem S1x256x1024 .f32) (harg1 : arg1.IsWhole)
    (arg2 : Memref sig .tc .vmem S1x256x1024 .f32) (harg2 : arg2.IsWhole)
    (arg3 : Memref sig .tc .vmem S256x256 .bf16) (harg3 : arg3.IsWhole)
    (arg4 : Memref sig .tc .vmem S256x128 .bf16) (harg4 : arg4.IsWhole)
    (arg5 : Memref sig .tc .vmem S1x1x256 .f32) (harg5 : arg5.IsWhole)
    (arg6 : Memref sig .tc .vmem S1x1x1024 .f32) (harg6 : arg6.IsWhole)
    (arg7 : Memref sig .tc .vmem S1x1024x2944 .bf16) (harg7 : arg7.IsWhole)
    (arg8 : Memref sig .tc .vmem S2x256 .f32) (harg8 : arg8.IsWhole)
    (arg9 : Memref sig .tc .vmem S1x1x256 .f32) (harg9 : arg9.IsWhole)
    (arg10 : Memref sig .tc .vmem S1x4x512 .f32) (harg10 : arg10.IsWhole)
    (arg11 : Memref sig .tc .vmem S1x1x512 .f32) (harg11 : arg11.IsWhole)
    (arg12 : Memref sig .tc .vmem S1x4x128x256 .bf16) (harg12 : arg12.IsWhole)
    (arg13 : Memref sig .tc .vmem S1x1x512 .f32) (harg13 : arg13.IsWhole)
    (arg14 : Memref sig .tc .vmem S1x1x512 .f32) (harg14 : arg14.IsWhole)
    (arg15 : Memref sig .tc .vmem S1x1x512 .f32) (harg15 : arg15.IsWhole)
    (arg16 : Memref sig .tc .vmem S1x128x128 .bf16) (harg16 : arg16.IsWhole)
    (arg17 : Memref sig .tc .vmem S1x1x128 .f32) (harg17 : arg17.IsWhole)
    (arg18 : Memref sig .tc .vmem S1x1x256 .f32) (harg18 : arg18.IsWhole)
    (arg19 : Memref sig .tc .vmem S1x1024x1024 .bf16) (harg19 : arg19.IsWhole)
    (arg20 : Memref sig .tc .vmem S1x256x1024 .f32) (harg20 : arg20.IsWhole)
    (arg21 : Memref sig .tc .vmem S256x256 .f32) (harg21 : arg21.IsWhole)
    (arg22 : Memref sig .tc .vmem S256x128 .f32) (harg22 : arg22.IsWhole)
    (arg23 : Memref sig .tc .vmem S1x512 .f32) (harg23 : arg23.IsWhole)
    (arg24 : Memref sig .tc .vmem S8x512 .f32) (harg24 : arg24.IsWhole)
    (arg25 : Memref sig .tc .vmem S256x2944 .f32) (harg25 : arg25.IsWhole)
    (arg26 : Memref sig .tc .vmem S256x1024 .bf16) (harg26 : arg26.IsWhole)
    (arg27 : Memref sig .tc .vmem S4x4x320x128 .f32) (harg27 : arg27.IsWhole)
    (arg28 : Memref sig .tc .vmem S3x2x320x128 .f32) (harg28 : arg28.IsWhole)
    (l1 : Lends c I arg1) (l2 : Lends c I arg2) (l3 : Lends c I arg3) (l4 : Lends c I arg4) (l5 : Lends c I arg5)
    (l6 : Lends c I arg6) (l7 : Lends c I arg7) (l8 : Lends c I arg8) (l9 : Lends c I arg9) (l10 : Lends c I arg10)
    (l11 : Lends c I arg11) (l12 : Lends c I arg12) (l13 : Lends c I arg13) (l14 : Lends c I arg14)
    (l15 : Lends c I arg15) (l16 : Lends c I arg16) (l17 : Lends c I arg17) (l18 : Lends c I arg18)
    (l19 : Lends c I arg19) (l20 : Lends c I arg20) (l21 : Lends c I arg21) (l22 : Lends c I arg22)
    (l23 : Lends c I arg23) (l24 : Lends c I arg24) (l25 : Lends c I arg25) (l26 : Lends c I arg26)
    (l27 : Lends c I arg27) (l28 : Lends c I arg28) :
    Safe defs₀ c I (cc0_mixer0 (F := F) i
      arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      arg26 harg26 arg27 harg27 arg28 harg28) := by
  rw [cc0_mixer0_eq_skeleton]
  unfold cc0_mixer0_skel
  repeat' with_reducible (first
    | exact Safe.pure _
    | exact Safe.load ‹_›
    | exact Safe.store ‹_›
    | exact Safe.load (Lends.squeeze (Lends.slice ‹_›))
    | exact Safe.store (Lends.squeeze (Lends.slice ‹_›))
    | refine Safe.bind ?_ fun _ => ?_
    | refine Safe.ite (fun _ => ?_) fun _ => ?_
    | refine Safe.dite (fun _ => ?_) fun _ => ?_
    | simp only [
        k0_part1_eq_skeleton, k0_part2_eq_skeleton, k0_part3_eq_skeleton, k0_part4_eq_skeleton,
        k0_part5_eq_skeleton, k0_part6_eq_skeleton, k0_part7_eq_skeleton, k0_part8_eq_skeleton,
        k0_part9_eq_skeleton, k0_part10_eq_skeleton, k0_part11_eq_skeleton, k0_part12_eq_skeleton,
        k0_part13_eq_skeleton, k0_part14_eq_skeleton, k0_part15_eq_skeleton, k0_part16_eq_skeleton,
        k0_part17_eq_skeleton, k0_part18_eq_skeleton, k0_part19_eq_skeleton, k0_part20_eq_skeleton,
        k0_part21_eq_skeleton, k0_part22_eq_skeleton, k0_part23_eq_skeleton, k0_part24_eq_skeleton,
        k0_part25_eq_skeleton, k0_part26_eq_skeleton, k0_part27_eq_skeleton, k0_part28_eq_skeleton,
        k0_part29_eq_skeleton, k0_part30_eq_skeleton, k0_part31_eq_skeleton, k0_part32_eq_skeleton,
        k0_part33_eq_skeleton, k0_part34_eq_skeleton, k0_part35_eq_skeleton, k0_part36_eq_skeleton,
        k0_part37_eq_skeleton, k0_part38_eq_skeleton, k0_part39_eq_skeleton, k0_part40_eq_skeleton,
        k0_part41_eq_skeleton, k0_part42_eq_skeleton, k0_part43_eq_skeleton, k0_part44_eq_skeleton,
        k0_part45_eq_skeleton, k0_part46_eq_skeleton, k0_part47_eq_skeleton, k0_part48_eq_skeleton,
        k0_part49_eq_skeleton, k0_part50_eq_skeleton, k0_part51_eq_skeleton, k0_part52_eq_skeleton,
        k0_part53_eq_skeleton, k0_part54_eq_skeleton, k0_part55_eq_skeleton, k0_part56_eq_skeleton,
        k0_part57_eq_skeleton, k0_part58_eq_skeleton, k0_part59_eq_skeleton, k0_part60_eq_skeleton,
        k0_part61_eq_skeleton, k0_part62_eq_skeleton, k0_part63_eq_skeleton, k0_part64_eq_skeleton,
        k0_part65_eq_skeleton, k0_part66_eq_skeleton, k0_part67_eq_skeleton, k0_part68_eq_skeleton,
        k0_part69_eq_skeleton, k0_part70_eq_skeleton, k0_part71_eq_skeleton, k0_part72_eq_skeleton,
        k0_part73_eq_skeleton, k0_part74_eq_skeleton, k0_part75_eq_skeleton, k0_part76_eq_skeleton,
        k0_part77_eq_skeleton, k0_part78_eq_skeleton, k0_part79_eq_skeleton, k0_part80_eq_skeleton,
        k0_part81_eq_skeleton, k0_part82_eq_skeleton, k0_part83_eq_skeleton, k0_part84_eq_skeleton,
        k0_part85_eq_skeleton, k0_part86_eq_skeleton, k0_part87_eq_skeleton, k0_part88_eq_skeleton,
        k0_part89_eq_skeleton, k0_part90_eq_skeleton, k0_part91_eq_skeleton, k0_part92_eq_skeleton,
        k0_part93_eq_skeleton, k0_part94_eq_skeleton, k0_part95_eq_skeleton, k0_part96_eq_skeleton,
        k0_part97_eq_skeleton, k0_part98_eq_skeleton, k0_part99_eq_skeleton, k0_part100_eq_skeleton,
        k0_part101_eq_skeleton, k0_part102_eq_skeleton, k0_part103_eq_skeleton, k0_part104_eq_skeleton,
        k0_part105_eq_skeleton, k0_part106_eq_skeleton, k0_part107_eq_skeleton, k0_part108_eq_skeleton,
        k0_part109_eq_skeleton, k0_part110_eq_skeleton, k0_part111_eq_skeleton, k0_part112_eq_skeleton,
        k0_part113_eq_skeleton, k0_part114_eq_skeleton, k0_part115_eq_skeleton, k0_part116_eq_skeleton,
        k0_part117_eq_skeleton, k0_part118_eq_skeleton, k0_part119_eq_skeleton, k0_part120_eq_skeleton,
        k0_part121_eq_skeleton, k0_part122_eq_skeleton, k0_part123_eq_skeleton, k0_part124_eq_skeleton,
        k0_part125_eq_skeleton, k0_part126_eq_skeleton, k0_part127_eq_skeleton, k0_part128_eq_skeleton,
        k0_part129_eq_skeleton, k0_part130_eq_skeleton, k0_part131_eq_skeleton, k0_part132_eq_skeleton,
        k0_part133_eq_skeleton, k0_part134_eq_skeleton, k0_part135_eq_skeleton, k0_part136_eq_skeleton,
        k0_part137_eq_skeleton, k0_part138_eq_skeleton, k0_part139_eq_skeleton, k0_part140_eq_skeleton,
        k0_part141_eq_skeleton, k0_part142_eq_skeleton, k0_part143_eq_skeleton, k0_part144_eq_skeleton,
        k0_part145_eq_skeleton, k0_part146_eq_skeleton, k0_part147_eq_skeleton, k0_part148_eq_skeleton,
        k0_part149_eq_skeleton, k0_part150_eq_skeleton, k0_part151_eq_skeleton, k0_part152_eq_skeleton,
        k0_part153_eq_skeleton, k0_part154_eq_skeleton, k0_part155_eq_skeleton, k0_part156_eq_skeleton,
        k0_part157_eq_skeleton, k0_part158_eq_skeleton, k0_part159_eq_skeleton, k0_part160_eq_skeleton,
        k0_part161_eq_skeleton, k0_part162_eq_skeleton, k0_part163_eq_skeleton, k0_part164_eq_skeleton,
        k0_part165_eq_skeleton, k0_part166_eq_skeleton, k0_part167_eq_skeleton, k0_part168_eq_skeleton,
        k0_part169_eq_skeleton, k0_part170_eq_skeleton, k0_part171_eq_skeleton, k0_part172_eq_skeleton,
        k0_part173_eq_skeleton, k0_part174_eq_skeleton, k0_part175_eq_skeleton, k0_part176_eq_skeleton,
        k0_part177_eq_skeleton, k0_part178_eq_skeleton, k0_part179_eq_skeleton, k0_part180_eq_skeleton,
        k0_part181_eq_skeleton, k0_part182_eq_skeleton, k0_part183_eq_skeleton, k0_part184_eq_skeleton,
        k0_part185_eq_skeleton, k0_part186_eq_skeleton, k0_part187_eq_skeleton, k0_part188_eq_skeleton,
        k0_part189_eq_skeleton, k0_part190_eq_skeleton, k0_part191_eq_skeleton, k0_part192_eq_skeleton,
        k0_part193_eq_skeleton, k0_part194_eq_skeleton, k0_part195_eq_skeleton, k0_part196_eq_skeleton,
        k0_part197_eq_skeleton, k0_part198_eq_skeleton, k0_part199_eq_skeleton, k0_part200_eq_skeleton,
        k0_part201_eq_skeleton, k0_part202_eq_skeleton, k0_part203_eq_skeleton, k0_part204_eq_skeleton,
        k0_part205_eq_skeleton, k0_part206_eq_skeleton, k0_part207_eq_skeleton, k0_part208_eq_skeleton,
        k0_part209_eq_skeleton, k0_part210_eq_skeleton, k0_part211_eq_skeleton, k0_part212_eq_skeleton,
        k0_part213_eq_skeleton, k0_part214_eq_skeleton, k0_part215_eq_skeleton, k0_part216_eq_skeleton]
    | dsimp only [
        k0_part1_skel, k0_part2_skel, k0_part3_skel, k0_part4_skel, k0_part5_skel, k0_part6_skel, k0_part7_skel,
        k0_part8_skel, k0_part9_skel, k0_part10_skel, k0_part11_skel, k0_part12_skel, k0_part13_skel,
        k0_part14_skel, k0_part15_skel, k0_part16_skel, k0_part17_skel, k0_part18_skel, k0_part19_skel,
        k0_part20_skel, k0_part21_skel, k0_part22_skel, k0_part23_skel, k0_part24_skel, k0_part25_skel,
        k0_part26_skel, k0_part27_skel, k0_part28_skel, k0_part29_skel, k0_part30_skel, k0_part31_skel,
        k0_part32_skel, k0_part33_skel, k0_part34_skel, k0_part35_skel, k0_part36_skel, k0_part37_skel,
        k0_part38_skel, k0_part39_skel, k0_part40_skel, k0_part41_skel, k0_part42_skel, k0_part43_skel,
        k0_part44_skel, k0_part45_skel, k0_part46_skel, k0_part47_skel, k0_part48_skel, k0_part49_skel,
        k0_part50_skel, k0_part51_skel, k0_part52_skel, k0_part53_skel, k0_part54_skel, k0_part55_skel,
        k0_part56_skel, k0_part57_skel, k0_part58_skel, k0_part59_skel, k0_part60_skel, k0_part61_skel,
        k0_part62_skel, k0_part63_skel, k0_part64_skel, k0_part65_skel, k0_part66_skel, k0_part67_skel,
        k0_part68_skel, k0_part69_skel, k0_part70_skel, k0_part71_skel, k0_part72_skel, k0_part73_skel,
        k0_part74_skel, k0_part75_skel, k0_part76_skel, k0_part77_skel, k0_part78_skel, k0_part79_skel,
        k0_part80_skel, k0_part81_skel, k0_part82_skel, k0_part83_skel, k0_part84_skel, k0_part85_skel,
        k0_part86_skel, k0_part87_skel, k0_part88_skel, k0_part89_skel, k0_part90_skel, k0_part91_skel,
        k0_part92_skel, k0_part93_skel, k0_part94_skel, k0_part95_skel, k0_part96_skel, k0_part97_skel,
        k0_part98_skel, k0_part99_skel, k0_part100_skel, k0_part101_skel, k0_part102_skel, k0_part103_skel,
        k0_part104_skel, k0_part105_skel, k0_part106_skel, k0_part107_skel, k0_part108_skel, k0_part109_skel,
        k0_part110_skel, k0_part111_skel, k0_part112_skel, k0_part113_skel, k0_part114_skel, k0_part115_skel,
        k0_part116_skel, k0_part117_skel, k0_part118_skel, k0_part119_skel, k0_part120_skel, k0_part121_skel,
        k0_part122_skel, k0_part123_skel, k0_part124_skel, k0_part125_skel, k0_part126_skel, k0_part127_skel,
        k0_part128_skel, k0_part129_skel, k0_part130_skel, k0_part131_skel, k0_part132_skel, k0_part133_skel,
        k0_part134_skel, k0_part135_skel, k0_part136_skel, k0_part137_skel, k0_part138_skel, k0_part139_skel,
        k0_part140_skel, k0_part141_skel, k0_part142_skel, k0_part143_skel, k0_part144_skel, k0_part145_skel,
        k0_part146_skel, k0_part147_skel, k0_part148_skel, k0_part149_skel, k0_part150_skel, k0_part151_skel,
        k0_part152_skel, k0_part153_skel, k0_part154_skel, k0_part155_skel, k0_part156_skel, k0_part157_skel,
        k0_part158_skel, k0_part159_skel, k0_part160_skel, k0_part161_skel, k0_part162_skel, k0_part163_skel,
        k0_part164_skel, k0_part165_skel, k0_part166_skel, k0_part167_skel, k0_part168_skel, k0_part169_skel,
        k0_part170_skel, k0_part171_skel, k0_part172_skel, k0_part173_skel, k0_part174_skel, k0_part175_skel,
        k0_part176_skel, k0_part177_skel, k0_part178_skel, k0_part179_skel, k0_part180_skel, k0_part181_skel,
        k0_part182_skel, k0_part183_skel, k0_part184_skel, k0_part185_skel, k0_part186_skel, k0_part187_skel,
        k0_part188_skel, k0_part189_skel, k0_part190_skel, k0_part191_skel, k0_part192_skel, k0_part193_skel,
        k0_part194_skel, k0_part195_skel, k0_part196_skel, k0_part197_skel, k0_part198_skel, k0_part199_skel,
        k0_part200_skel, k0_part201_skel, k0_part202_skel, k0_part203_skel, k0_part204_skel, k0_part205_skel,
        k0_part206_skel, k0_part207_skel, k0_part208_skel, k0_part209_skel, k0_part210_skel, k0_part211_skel,
        k0_part212_skel, k0_part213_skel, k0_part214_skel, k0_part215_skel, k0_part216_skel])

end Cert.KernelIdeal.Mix

end
-- ==== Proof.Mix.KernelIdealBody1.lean ====
/-
  The body of cc1_ffn0 keeps what it is given: every operation of it is a load or a store, on a memref the invariant
  lends or on a slice of one, so `Safe` is composed operation by operation, whichever way its branches go.
-/
module

public import proofs.«01_k».proof.Proof.Gen.KernelIdeal.Skeleton
public import proofs.«01_k».proof.Proof.Mix.Safe

@[expose] public section

set_option maxRecDepth 65536

noncomputable section

namespace Cert.KernelIdeal.Mix

open Idealize.ShloMosaic Idealize.ShloMosaic.TcCoe
open Idealize.SL Idealize.SL.RA Idealize.SL.BI Idealize.SL.Sem
open Cert.KernelIdeal Cert.KernelIdeal.Gen Cert.Mix

variable {F : FTy → Type} [FloatOps F] {U : Type} [URA U]

set_option maxHeartbeats 40000000 in
/-- The body of region 1, at any invariant that lends its memrefs. -/
theorem body_safe1 (c : Dev nD) (I : sProp (MT nD τ sig Unit (Elt F) ℕ U ℕ)) (i : grid1.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1024x5376 .bf16) (harg4 : arg4.IsWhole)
    (arg5 : Memref sig .tc .vmem S1x3x2688 .f32) (harg5 : arg5.IsWhole)
    (arg6 : Memref sig .tc .vmem S1x1x2688 .f32) (harg6 : arg6.IsWhole)
    (arg7 : Memref sig .tc .vmem S1x2688x1024 .bf16) (harg7 : arg7.IsWhole)
    (arg8 : Memref sig .tc .vmem S1x1024 .f32) (harg8 : arg8.IsWhole)
    (arg9 : Memref sig .tc .vmem S1x512x1024 .f32) (harg9 : arg9.IsWhole)
    (arg10 : Memref sig .tc .vmem S520x2688 .f32) (harg10 : arg10.IsWhole)
    (l2 : Lends c I arg2) (l3 : Lends c I arg3) (l4 : Lends c I arg4) (l5 : Lends c I arg5) (l6 : Lends c I arg6)
    (l7 : Lends c I arg7) (l8 : Lends c I arg8) (l9 : Lends c I arg9) (l10 : Lends c I arg10) :
    Safe defs₀ c I (cc1_ffn0 (F := F) i
      arg2 harg2 arg3 harg3 arg4 harg4 arg5 harg5 arg6 harg6 arg7 harg7 arg8 harg8 arg9 harg9 arg10 harg10) := by
  rw [cc1_ffn0_eq_skeleton]
  unfold cc1_ffn0_skel
  repeat' with_reducible (first
    | exact Safe.pure _
    | exact Safe.load ‹_›
    | exact Safe.store ‹_›
    | exact Safe.load (Lends.squeeze (Lends.slice ‹_›))
    | exact Safe.store (Lends.squeeze (Lends.slice ‹_›))
    | refine Safe.bind ?_ fun _ => ?_
    | refine Safe.ite (fun _ => ?_) fun _ => ?_
    | refine Safe.dite (fun _ => ?_) fun _ => ?_
    | simp only [
        k1_part1_eq_skeleton, k1_part2_eq_skeleton]
    | dsimp only [
        k1_part1_skel, k1_part2_skel])

end Cert.KernelIdeal.Mix

end
-- ==== Proof.Mix.KernelIdealBody2.lean ====
/-
  The body of cc2_mixer1 keeps what it is given: every operation of it is a load or a store, on a memref the invariant
  lends or on a slice of one, so `Safe` is composed operation by operation, whichever way its branches go.
-/
module

public import proofs.«01_k».proof.Proof.Gen.KernelIdeal.Skeleton
public import proofs.«01_k».proof.Proof.Mix.Safe

@[expose] public section

set_option maxRecDepth 65536

noncomputable section

namespace Cert.KernelIdeal.Mix

open Idealize.ShloMosaic Idealize.ShloMosaic.TcCoe
open Idealize.SL Idealize.SL.RA Idealize.SL.BI Idealize.SL.Sem
open Cert.KernelIdeal Cert.KernelIdeal.Gen Cert.Mix

variable {F : FTy → Type} [FloatOps F] {U : Type} [URA U]

set_option maxHeartbeats 40000000 in
/-- The body of region 2, at any invariant that lends its memrefs. -/
theorem body_safe2 (c : Dev nD) (I : sProp (MT nD τ sig Unit (Elt F) ℕ U ℕ)) (i : grid2.Coords)
    (arg1 : Memref sig .tc .vmem S1x256x1024 .f32) (harg1 : arg1.IsWhole)
    (arg2 : Memref sig .tc .vmem S1x256x1024 .f32) (harg2 : arg2.IsWhole)
    (arg3 : Memref sig .tc .vmem S256x256 .bf16) (harg3 : arg3.IsWhole)
    (arg4 : Memref sig .tc .vmem S256x128 .bf16) (harg4 : arg4.IsWhole)
    (arg5 : Memref sig .tc .vmem S1x1x256 .f32) (harg5 : arg5.IsWhole)
    (arg6 : Memref sig .tc .vmem S1x1x1024 .f32) (harg6 : arg6.IsWhole)
    (arg7 : Memref sig .tc .vmem S1x1024x2944 .bf16) (harg7 : arg7.IsWhole)
    (arg8 : Memref sig .tc .vmem S2x256 .f32) (harg8 : arg8.IsWhole)
    (arg9 : Memref sig .tc .vmem S1x1x256 .f32) (harg9 : arg9.IsWhole)
    (arg10 : Memref sig .tc .vmem S1x4x512 .f32) (harg10 : arg10.IsWhole)
    (arg11 : Memref sig .tc .vmem S1x1x512 .f32) (harg11 : arg11.IsWhole)
    (arg12 : Memref sig .tc .vmem S1x4x128x256 .bf16) (harg12 : arg12.IsWhole)
    (arg13 : Memref sig .tc .vmem S1x1x512 .f32) (harg13 : arg13.IsWhole)
    (arg14 : Memref sig .tc .vmem S1x1x512 .f32) (harg14 : arg14.IsWhole)
    (arg15 : Memref sig .tc .vmem S1x1x512 .f32) (harg15 : arg15.IsWhole)
    (arg16 : Memref sig .tc .vmem S1x128x128 .bf16) (harg16 : arg16.IsWhole)
    (arg17 : Memref sig .tc .vmem S1x1x128 .f32) (harg17 : arg17.IsWhole)
    (arg18 : Memref sig .tc .vmem S1x1x256 .f32) (harg18 : arg18.IsWhole)
    (arg19 : Memref sig .tc .vmem S1x1024x1024 .bf16) (harg19 : arg19.IsWhole)
    (arg20 : Memref sig .tc .vmem S1x256x1024 .f32) (harg20 : arg20.IsWhole)
    (arg21 : Memref sig .tc .vmem S256x256 .f32) (harg21 : arg21.IsWhole)
    (arg22 : Memref sig .tc .vmem S256x128 .f32) (harg22 : arg22.IsWhole)
    (arg23 : Memref sig .tc .vmem S1x512 .f32) (harg23 : arg23.IsWhole)
    (arg24 : Memref sig .tc .vmem S8x512 .f32) (harg24 : arg24.IsWhole)
    (arg25 : Memref sig .tc .vmem S256x2944 .f32) (harg25 : arg25.IsWhole)
    (arg26 : Memref sig .tc .vmem S256x1024 .bf16) (harg26 : arg26.IsWhole)
    (arg27 : Memref sig .tc .vmem S4x4x320x128 .f32) (harg27 : arg27.IsWhole)
    (arg28 : Memref sig .tc .vmem S3x2x320x128 .f32) (harg28 : arg28.IsWhole)
    (l1 : Lends c I arg1) (l2 : Lends c I arg2) (l3 : Lends c I arg3) (l4 : Lends c I arg4) (l5 : Lends c I arg5)
    (l6 : Lends c I arg6) (l7 : Lends c I arg7) (l8 : Lends c I arg8) (l9 : Lends c I arg9) (l10 : Lends c I arg10)
    (l11 : Lends c I arg11) (l12 : Lends c I arg12) (l13 : Lends c I arg13) (l14 : Lends c I arg14)
    (l15 : Lends c I arg15) (l16 : Lends c I arg16) (l17 : Lends c I arg17) (l18 : Lends c I arg18)
    (l19 : Lends c I arg19) (l20 : Lends c I arg20) (l21 : Lends c I arg21) (l22 : Lends c I arg22)
    (l23 : Lends c I arg23) (l24 : Lends c I arg24) (l25 : Lends c I arg25) (l26 : Lends c I arg26)
    (l27 : Lends c I arg27) (l28 : Lends c I arg28) :
    Safe defs₀ c I (cc2_mixer1 (F := F) i
      arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      arg26 harg26 arg27 harg27 arg28 harg28) := by
  rw [cc2_mixer1_eq_skeleton]
  unfold cc2_mixer1_skel
  repeat' with_reducible (first
    | exact Safe.pure _
    | exact Safe.load ‹_›
    | exact Safe.store ‹_›
    | exact Safe.load (Lends.squeeze (Lends.slice ‹_›))
    | exact Safe.store (Lends.squeeze (Lends.slice ‹_›))
    | refine Safe.bind ?_ fun _ => ?_
    | refine Safe.ite (fun _ => ?_) fun _ => ?_
    | refine Safe.dite (fun _ => ?_) fun _ => ?_
    | simp only [
        k2_part1_eq_skeleton, k2_part2_eq_skeleton, k2_part3_eq_skeleton, k2_part4_eq_skeleton,
        k2_part5_eq_skeleton, k2_part6_eq_skeleton, k2_part7_eq_skeleton, k2_part8_eq_skeleton,
        k2_part9_eq_skeleton, k2_part10_eq_skeleton, k2_part11_eq_skeleton, k2_part12_eq_skeleton,
        k2_part13_eq_skeleton, k2_part14_eq_skeleton, k2_part15_eq_skeleton, k2_part16_eq_skeleton,
        k2_part17_eq_skeleton, k2_part18_eq_skeleton, k2_part19_eq_skeleton, k2_part20_eq_skeleton,
        k2_part21_eq_skeleton, k2_part22_eq_skeleton, k2_part23_eq_skeleton, k2_part24_eq_skeleton,
        k2_part25_eq_skeleton, k2_part26_eq_skeleton, k2_part27_eq_skeleton, k2_part28_eq_skeleton,
        k2_part29_eq_skeleton, k2_part30_eq_skeleton, k2_part31_eq_skeleton, k2_part32_eq_skeleton,
        k2_part33_eq_skeleton, k2_part34_eq_skeleton, k2_part35_eq_skeleton, k2_part36_eq_skeleton,
        k2_part37_eq_skeleton, k2_part38_eq_skeleton, k2_part39_eq_skeleton, k2_part40_eq_skeleton,
        k2_part41_eq_skeleton, k2_part42_eq_skeleton, k2_part43_eq_skeleton, k2_part44_eq_skeleton,
        k2_part45_eq_skeleton, k2_part46_eq_skeleton, k2_part47_eq_skeleton, k2_part48_eq_skeleton,
        k2_part49_eq_skeleton, k2_part50_eq_skeleton, k2_part51_eq_skeleton, k2_part52_eq_skeleton,
        k2_part53_eq_skeleton, k2_part54_eq_skeleton, k2_part55_eq_skeleton, k2_part56_eq_skeleton,
        k2_part57_eq_skeleton, k2_part58_eq_skeleton, k2_part59_eq_skeleton, k2_part60_eq_skeleton,
        k2_part61_eq_skeleton, k2_part62_eq_skeleton, k2_part63_eq_skeleton, k2_part64_eq_skeleton,
        k2_part65_eq_skeleton, k2_part66_eq_skeleton, k2_part67_eq_skeleton, k2_part68_eq_skeleton,
        k2_part69_eq_skeleton, k2_part70_eq_skeleton, k2_part71_eq_skeleton, k2_part72_eq_skeleton,
        k2_part73_eq_skeleton, k2_part74_eq_skeleton, k2_part75_eq_skeleton, k2_part76_eq_skeleton,
        k2_part77_eq_skeleton, k2_part78_eq_skeleton, k2_part79_eq_skeleton, k2_part80_eq_skeleton,
        k2_part81_eq_skeleton, k2_part82_eq_skeleton, k2_part83_eq_skeleton, k2_part84_eq_skeleton,
        k2_part85_eq_skeleton, k2_part86_eq_skeleton, k2_part87_eq_skeleton, k2_part88_eq_skeleton,
        k2_part89_eq_skeleton, k2_part90_eq_skeleton, k2_part91_eq_skeleton, k2_part92_eq_skeleton,
        k2_part93_eq_skeleton, k2_part94_eq_skeleton, k2_part95_eq_skeleton, k2_part96_eq_skeleton,
        k2_part97_eq_skeleton, k2_part98_eq_skeleton, k2_part99_eq_skeleton, k2_part100_eq_skeleton,
        k2_part101_eq_skeleton, k2_part102_eq_skeleton, k2_part103_eq_skeleton, k2_part104_eq_skeleton,
        k2_part105_eq_skeleton, k2_part106_eq_skeleton, k2_part107_eq_skeleton, k2_part108_eq_skeleton,
        k2_part109_eq_skeleton, k2_part110_eq_skeleton, k2_part111_eq_skeleton, k2_part112_eq_skeleton,
        k2_part113_eq_skeleton, k2_part114_eq_skeleton, k2_part115_eq_skeleton, k2_part116_eq_skeleton,
        k2_part117_eq_skeleton, k2_part118_eq_skeleton, k2_part119_eq_skeleton, k2_part120_eq_skeleton,
        k2_part121_eq_skeleton, k2_part122_eq_skeleton, k2_part123_eq_skeleton, k2_part124_eq_skeleton,
        k2_part125_eq_skeleton, k2_part126_eq_skeleton, k2_part127_eq_skeleton, k2_part128_eq_skeleton,
        k2_part129_eq_skeleton, k2_part130_eq_skeleton, k2_part131_eq_skeleton, k2_part132_eq_skeleton,
        k2_part133_eq_skeleton, k2_part134_eq_skeleton, k2_part135_eq_skeleton, k2_part136_eq_skeleton,
        k2_part137_eq_skeleton, k2_part138_eq_skeleton, k2_part139_eq_skeleton, k2_part140_eq_skeleton,
        k2_part141_eq_skeleton, k2_part142_eq_skeleton, k2_part143_eq_skeleton, k2_part144_eq_skeleton,
        k2_part145_eq_skeleton, k2_part146_eq_skeleton, k2_part147_eq_skeleton, k2_part148_eq_skeleton,
        k2_part149_eq_skeleton, k2_part150_eq_skeleton, k2_part151_eq_skeleton, k2_part152_eq_skeleton,
        k2_part153_eq_skeleton, k2_part154_eq_skeleton, k2_part155_eq_skeleton, k2_part156_eq_skeleton,
        k2_part157_eq_skeleton, k2_part158_eq_skeleton, k2_part159_eq_skeleton, k2_part160_eq_skeleton,
        k2_part161_eq_skeleton, k2_part162_eq_skeleton, k2_part163_eq_skeleton, k2_part164_eq_skeleton,
        k2_part165_eq_skeleton, k2_part166_eq_skeleton, k2_part167_eq_skeleton, k2_part168_eq_skeleton,
        k2_part169_eq_skeleton, k2_part170_eq_skeleton, k2_part171_eq_skeleton, k2_part172_eq_skeleton,
        k2_part173_eq_skeleton, k2_part174_eq_skeleton, k2_part175_eq_skeleton, k2_part176_eq_skeleton,
        k2_part177_eq_skeleton, k2_part178_eq_skeleton, k2_part179_eq_skeleton, k2_part180_eq_skeleton,
        k2_part181_eq_skeleton, k2_part182_eq_skeleton, k2_part183_eq_skeleton, k2_part184_eq_skeleton,
        k2_part185_eq_skeleton, k2_part186_eq_skeleton, k2_part187_eq_skeleton, k2_part188_eq_skeleton,
        k2_part189_eq_skeleton, k2_part190_eq_skeleton, k2_part191_eq_skeleton, k2_part192_eq_skeleton,
        k2_part193_eq_skeleton, k2_part194_eq_skeleton, k2_part195_eq_skeleton, k2_part196_eq_skeleton,
        k2_part197_eq_skeleton, k2_part198_eq_skeleton, k2_part199_eq_skeleton, k2_part200_eq_skeleton,
        k2_part201_eq_skeleton, k2_part202_eq_skeleton, k2_part203_eq_skeleton, k2_part204_eq_skeleton,
        k2_part205_eq_skeleton, k2_part206_eq_skeleton, k2_part207_eq_skeleton, k2_part208_eq_skeleton,
        k2_part209_eq_skeleton, k2_part210_eq_skeleton, k2_part211_eq_skeleton, k2_part212_eq_skeleton,
        k2_part213_eq_skeleton, k2_part214_eq_skeleton, k2_part215_eq_skeleton, k2_part216_eq_skeleton]
    | dsimp only [
        k2_part1_skel, k2_part2_skel, k2_part3_skel, k2_part4_skel, k2_part5_skel, k2_part6_skel, k2_part7_skel,
        k2_part8_skel, k2_part9_skel, k2_part10_skel, k2_part11_skel, k2_part12_skel, k2_part13_skel,
        k2_part14_skel, k2_part15_skel, k2_part16_skel, k2_part17_skel, k2_part18_skel, k2_part19_skel,
        k2_part20_skel, k2_part21_skel, k2_part22_skel, k2_part23_skel, k2_part24_skel, k2_part25_skel,
        k2_part26_skel, k2_part27_skel, k2_part28_skel, k2_part29_skel, k2_part30_skel, k2_part31_skel,
        k2_part32_skel, k2_part33_skel, k2_part34_skel, k2_part35_skel, k2_part36_skel, k2_part37_skel,
        k2_part38_skel, k2_part39_skel, k2_part40_skel, k2_part41_skel, k2_part42_skel, k2_part43_skel,
        k2_part44_skel, k2_part45_skel, k2_part46_skel, k2_part47_skel, k2_part48_skel, k2_part49_skel,
        k2_part50_skel, k2_part51_skel, k2_part52_skel, k2_part53_skel, k2_part54_skel, k2_part55_skel,
        k2_part56_skel, k2_part57_skel, k2_part58_skel, k2_part59_skel, k2_part60_skel, k2_part61_skel,
        k2_part62_skel, k2_part63_skel, k2_part64_skel, k2_part65_skel, k2_part66_skel, k2_part67_skel,
        k2_part68_skel, k2_part69_skel, k2_part70_skel, k2_part71_skel, k2_part72_skel, k2_part73_skel,
        k2_part74_skel, k2_part75_skel, k2_part76_skel, k2_part77_skel, k2_part78_skel, k2_part79_skel,
        k2_part80_skel, k2_part81_skel, k2_part82_skel, k2_part83_skel, k2_part84_skel, k2_part85_skel,
        k2_part86_skel, k2_part87_skel, k2_part88_skel, k2_part89_skel, k2_part90_skel, k2_part91_skel,
        k2_part92_skel, k2_part93_skel, k2_part94_skel, k2_part95_skel, k2_part96_skel, k2_part97_skel,
        k2_part98_skel, k2_part99_skel, k2_part100_skel, k2_part101_skel, k2_part102_skel, k2_part103_skel,
        k2_part104_skel, k2_part105_skel, k2_part106_skel, k2_part107_skel, k2_part108_skel, k2_part109_skel,
        k2_part110_skel, k2_part111_skel, k2_part112_skel, k2_part113_skel, k2_part114_skel, k2_part115_skel,
        k2_part116_skel, k2_part117_skel, k2_part118_skel, k2_part119_skel, k2_part120_skel, k2_part121_skel,
        k2_part122_skel, k2_part123_skel, k2_part124_skel, k2_part125_skel, k2_part126_skel, k2_part127_skel,
        k2_part128_skel, k2_part129_skel, k2_part130_skel, k2_part131_skel, k2_part132_skel, k2_part133_skel,
        k2_part134_skel, k2_part135_skel, k2_part136_skel, k2_part137_skel, k2_part138_skel, k2_part139_skel,
        k2_part140_skel, k2_part141_skel, k2_part142_skel, k2_part143_skel, k2_part144_skel, k2_part145_skel,
        k2_part146_skel, k2_part147_skel, k2_part148_skel, k2_part149_skel, k2_part150_skel, k2_part151_skel,
        k2_part152_skel, k2_part153_skel, k2_part154_skel, k2_part155_skel, k2_part156_skel, k2_part157_skel,
        k2_part158_skel, k2_part159_skel, k2_part160_skel, k2_part161_skel, k2_part162_skel, k2_part163_skel,
        k2_part164_skel, k2_part165_skel, k2_part166_skel, k2_part167_skel, k2_part168_skel, k2_part169_skel,
        k2_part170_skel, k2_part171_skel, k2_part172_skel, k2_part173_skel, k2_part174_skel, k2_part175_skel,
        k2_part176_skel, k2_part177_skel, k2_part178_skel, k2_part179_skel, k2_part180_skel, k2_part181_skel,
        k2_part182_skel, k2_part183_skel, k2_part184_skel, k2_part185_skel, k2_part186_skel, k2_part187_skel,
        k2_part188_skel, k2_part189_skel, k2_part190_skel, k2_part191_skel, k2_part192_skel, k2_part193_skel,
        k2_part194_skel, k2_part195_skel, k2_part196_skel, k2_part197_skel, k2_part198_skel, k2_part199_skel,
        k2_part200_skel, k2_part201_skel, k2_part202_skel, k2_part203_skel, k2_part204_skel, k2_part205_skel,
        k2_part206_skel, k2_part207_skel, k2_part208_skel, k2_part209_skel, k2_part210_skel, k2_part211_skel,
        k2_part212_skel, k2_part213_skel, k2_part214_skel, k2_part215_skel, k2_part216_skel])

end Cert.KernelIdeal.Mix

end
-- ==== Proof.Mix.KernelIdealBody3.lean ====
/-
  The body of cc3_ffn1 keeps what it is given: every operation of it is a load or a store, on a memref the invariant
  lends or on a slice of one, so `Safe` is composed operation by operation, whichever way its branches go.
-/
module

public import proofs.«01_k».proof.Proof.Gen.KernelIdeal.Skeleton
public import proofs.«01_k».proof.Proof.Mix.Safe

@[expose] public section

set_option maxRecDepth 65536

noncomputable section

namespace Cert.KernelIdeal.Mix

open Idealize.ShloMosaic Idealize.ShloMosaic.TcCoe
open Idealize.SL Idealize.SL.RA Idealize.SL.BI Idealize.SL.Sem
open Cert.KernelIdeal Cert.KernelIdeal.Gen Cert.Mix

variable {F : FTy → Type} [FloatOps F] {U : Type} [URA U]

set_option maxHeartbeats 40000000 in
/-- The body of region 3, at any invariant that lends its memrefs. -/
theorem body_safe3 (c : Dev nD) (I : sProp (MT nD τ sig Unit (Elt F) ℕ U ℕ)) (i : grid3.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1024x5376 .bf16) (harg4 : arg4.IsWhole)
    (arg5 : Memref sig .tc .vmem S1x3x2688 .f32) (harg5 : arg5.IsWhole)
    (arg6 : Memref sig .tc .vmem S1x1x2688 .f32) (harg6 : arg6.IsWhole)
    (arg7 : Memref sig .tc .vmem S1x2688x1024 .bf16) (harg7 : arg7.IsWhole)
    (arg8 : Memref sig .tc .vmem S1x1024 .f32) (harg8 : arg8.IsWhole)
    (arg9 : Memref sig .tc .vmem S1x512x1024 .f32) (harg9 : arg9.IsWhole)
    (arg10 : Memref sig .tc .vmem S520x2688 .f32) (harg10 : arg10.IsWhole)
    (l2 : Lends c I arg2) (l3 : Lends c I arg3) (l4 : Lends c I arg4) (l5 : Lends c I arg5) (l6 : Lends c I arg6)
    (l7 : Lends c I arg7) (l8 : Lends c I arg8) (l9 : Lends c I arg9) (l10 : Lends c I arg10) :
    Safe defs₀ c I (cc3_ffn1 (F := F) i
      arg2 harg2 arg3 harg3 arg4 harg4 arg5 harg5 arg6 harg6 arg7 harg7 arg8 harg8 arg9 harg9 arg10 harg10) := by
  rw [cc3_ffn1_eq_skeleton]
  unfold cc3_ffn1_skel
  repeat' with_reducible (first
    | exact Safe.pure _
    | exact Safe.load ‹_›
    | exact Safe.store ‹_›
    | exact Safe.load (Lends.squeeze (Lends.slice ‹_›))
    | exact Safe.store (Lends.squeeze (Lends.slice ‹_›))
    | refine Safe.bind ?_ fun _ => ?_
    | refine Safe.ite (fun _ => ?_) fun _ => ?_
    | refine Safe.dite (fun _ => ?_) fun _ => ?_
    | simp only [
        k3_part1_eq_skeleton, k3_part2_eq_skeleton]
    | dsimp only [
        k3_part1_skel, k3_part2_skel])

end Cert.KernelIdeal.Mix

end
-- ==== Proof.Mix.KernelIdealFrame.lean ====
/-
  The kernel's frame: between two calls what is kept of a core is its buffers, the arguments as launched; at every point
  of a call the body gives back what it is given — the windows' staging buffers and the scratch buffers, each at some
  contents —, so the launch ends, and ends with its argument arrays as they were.
-/
module

public import proofs.«01_k».proof.Proof.Gen.KernelIdeal.Points
public import proofs.«01_k».proof.Proof.Gen.KernelIdeal.Regions
public import proofs.«01_k».proof.Proof.Mix.KernelIdealBody0
public import proofs.«01_k».proof.Proof.Mix.KernelIdealBody1
public import proofs.«01_k».proof.Proof.Mix.KernelIdealBody2
public import proofs.«01_k».proof.Proof.Mix.KernelIdealBody3
public import proofs.«01_k».proof.Proof.Mix.Regions

@[expose] public section

set_option maxRecDepth 65536

noncomputable section

namespace Cert.KernelIdeal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat HostSeg Seg)
open Cert.KernelIdeal Cert.KernelIdeal.Gen Cert.Mix

variable {F : FTy → Type} [FloatOps F]

local notation "𝕄" => MT nD τ sig Unit (Elt F) ℕ (UR sig nD τ × UR sig nD τ) ℕ

/-! ## Region 0 -/

set_option maxHeartbeats 4000000 in
/-- The body of region 0 at the region's invariant: its scratch buffers and its windows' buffers, each at some contents,
    beside what it does not look at. -/
theorem body_keeps0 (c : Dev nD) (B G O : sProp (MT nD τ sig Unit (Elt F) ℕ (UR sig nD τ × UR sig nD τ) ℕ)) (i : grid0.Coords)
    (arg1 : Memref sig .tc .vmem S1x256x1024 .f32) (harg1 : arg1.IsWhole)
    (arg2 : Memref sig .tc .vmem S1x256x1024 .f32) (harg2 : arg2.IsWhole)
    (arg3 : Memref sig .tc .vmem S256x256 .bf16) (harg3 : arg3.IsWhole)
    (arg4 : Memref sig .tc .vmem S256x128 .bf16) (harg4 : arg4.IsWhole)
    (arg5 : Memref sig .tc .vmem S1x1x256 .f32) (harg5 : arg5.IsWhole)
    (arg6 : Memref sig .tc .vmem S1x1x1024 .f32) (harg6 : arg6.IsWhole)
    (arg7 : Memref sig .tc .vmem S1x1024x2944 .bf16) (harg7 : arg7.IsWhole)
    (arg8 : Memref sig .tc .vmem S2x256 .f32) (harg8 : arg8.IsWhole)
    (arg9 : Memref sig .tc .vmem S1x1x256 .f32) (harg9 : arg9.IsWhole)
    (arg10 : Memref sig .tc .vmem S1x4x512 .f32) (harg10 : arg10.IsWhole)
    (arg11 : Memref sig .tc .vmem S1x1x512 .f32) (harg11 : arg11.IsWhole)
    (arg12 : Memref sig .tc .vmem S1x4x128x256 .bf16) (harg12 : arg12.IsWhole)
    (arg13 : Memref sig .tc .vmem S1x1x512 .f32) (harg13 : arg13.IsWhole)
    (arg14 : Memref sig .tc .vmem S1x1x512 .f32) (harg14 : arg14.IsWhole)
    (arg15 : Memref sig .tc .vmem S1x1x512 .f32) (harg15 : arg15.IsWhole)
    (arg16 : Memref sig .tc .vmem S1x128x128 .bf16) (harg16 : arg16.IsWhole)
    (arg17 : Memref sig .tc .vmem S1x1x128 .f32) (harg17 : arg17.IsWhole)
    (arg18 : Memref sig .tc .vmem S1x1x256 .f32) (harg18 : arg18.IsWhole)
    (arg19 : Memref sig .tc .vmem S1x1024x1024 .bf16) (harg19 : arg19.IsWhole)
    (arg20 : Memref sig .tc .vmem S1x256x1024 .f32) (harg20 : arg20.IsWhole)
    (arg21 : Memref sig .tc .vmem S256x256 .f32) (harg21 : arg21.IsWhole)
    (arg22 : Memref sig .tc .vmem S256x128 .f32) (harg22 : arg22.IsWhole)
    (arg23 : Memref sig .tc .vmem S1x512 .f32) (harg23 : arg23.IsWhole)
    (arg24 : Memref sig .tc .vmem S8x512 .f32) (harg24 : arg24.IsWhole)
    (arg25 : Memref sig .tc .vmem S256x2944 .f32) (harg25 : arg25.IsWhole)
    (arg26 : Memref sig .tc .vmem S256x1024 .bf16) (harg26 : arg26.IsWhole)
    (arg27 : Memref sig .tc .vmem S4x4x320x128 .f32) (harg27 : arg27.IsWhole)
    (arg28 : Memref sig .tc .vmem S3x2x320x128 .f32) (harg28 : arg28.IsWhole) :
    Safe defs₀ c iprop(((((∃ X, owns (c.tc : Thread nD τ) arg21 fullShare X) ∗ (∃ X, owns (c.tc : Thread nD τ) arg22 fullShare X) ∗ (∃ X, owns (c.tc : Thread nD τ) arg23 fullShare X) ∗ (∃ X, owns (c.tc : Thread nD τ) arg24 fullShare X) ∗ (∃ X, owns (c.tc : Thread nD τ) arg25 fullShare X) ∗ (∃ X, owns (c.tc : Thread nD τ) arg26 fullShare X) ∗ (∃ X, owns (c.tc : Thread nD τ) arg27 fullShare X) ∗ (∃ X, owns (c.tc : Thread nD τ) arg28 fullShare X)) ∗ B) ∗ G) ∗ O
      ∗ (∃ X, owns (c.tc : Thread nD τ) arg1 fullShare X)
      ∗ (∃ X, owns (c.tc : Thread nD τ) arg2 fullShare X)
      ∗ (∃ X, owns (c.tc : Thread nD τ) arg3 fullShare X)
      ∗ (∃ X, owns (c.tc : Thread nD τ) arg4 fullShare X)
      ∗ (∃ X, owns (c.tc : Thread nD τ) arg5 fullShare X)
      ∗ (∃ X, owns (c.tc : Thread nD τ) arg6 fullShare X)
      ∗ (∃ X, owns (c.tc : Thread nD τ) arg7 fullShare X)
      ∗ (∃ X, owns (c.tc : Thread nD τ) arg8 fullShare X)
      ∗ (∃ X, owns (c.tc : Thread nD τ) arg9 fullShare X)
      ∗ (∃ X, owns (c.tc : Thread nD τ) arg10 fullShare X)
      ∗ (∃ X, owns (c.tc : Thread nD τ) arg11 fullShare X)
      ∗ (∃ X, owns (c.tc : Thread nD τ) arg12 fullShare X)
      ∗ (∃ X, owns (c.tc : Thread nD τ) arg13 fullShare X)
      ∗ (∃ X, owns (c.tc : Thread nD τ) arg14 fullShare X)
      ∗ (∃ X, owns (c.tc : Thread nD τ) arg15 fullShare X)
      ∗ (∃ X, owns (c.tc : Thread nD τ) arg16 fullShare X)
      ∗ (∃ X, owns (c.tc : Thread nD τ) arg17 fullShare X)
      ∗ (∃ X, owns (c.tc : Thread nD τ) arg18 fullShare X)
      ∗ (∃ X, owns (c.tc : Thread nD τ) arg19 fullShare X)
      ∗ (∃ X, owns (c.tc : Thread nD τ) arg20 fullShare X))
      (cc0_mixer0 (F := F) i
      arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      arg26 harg26 arg27 harg27 arg28 harg28) := by
  refine body_safe0 c _ i _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_
  all_goals with_reducible first
    | (refine Lends.right (Lends.right ?_)
       repeat (first | exact Lends.owned | exact Lends.left Lends.owned | refine Lends.right ?_)
       done)
    | (refine Lends.left (Lends.left (Lends.left ?_))
       repeat (first | exact Lends.owned | exact Lends.left Lends.owned | refine Lends.right ?_)
       done)

/-- The scoped buffers region 0 has no use for. -/
abbrev others0 (c : Dev nD) : sProp (MT nD τ sig Unit (Elt F) ℕ (UR sig nD τ × UR sig nD τ) ℕ) := Pipeline.scopedRestBut spec0 c [cc0_scratch0, cc0_scratch1, cc0_scratch2, cc0_scratch3, cc0_scratch4, cc0_scratch5, cc0_scratch6, cc0_scratch7]

/-- Region 0's invariant, conjunct by conjunct: its scratch buffers at some contents, the other scoped buffers, the
    generator register. -/
theorem inv_eq0 (c : Dev nD) :
    (Pipeline.ΦA spec0 c : sProp 𝕄) = iprop((((∃ X, owns (c.tc : Thread nD τ) (Memref.whole cc0_scratch0) fullShare X) ∗ (∃ X, owns (c.tc : Thread nD τ) (Memref.whole cc0_scratch1) fullShare X) ∗ (∃ X, owns (c.tc : Thread nD τ) (Memref.whole cc0_scratch2) fullShare X) ∗ (∃ X, owns (c.tc : Thread nD τ) (Memref.whole cc0_scratch3) fullShare X) ∗ (∃ X, owns (c.tc : Thread nD τ) (Memref.whole cc0_scratch4) fullShare X) ∗ (∃ X, owns (c.tc : Thread nD τ) (Memref.whole cc0_scratch5) fullShare X) ∗ (∃ X, owns (c.tc : Thread nD τ) (Memref.whole cc0_scratch6) fullShare X) ∗ (∃ X, owns (c.tc : Thread nD τ) (Memref.whole cc0_scratch7) fullShare X)) ∗ others0 c)
      ∗ ∃ r, prngReg c r) := by
  unfold Pipeline.ΦA
  rw [scopedRest0_split]
  simp only [owns_whole]
  try rfl

/-- The proof data of region 0 entered at `X`. -/
def data0 (X : Valuation τ sig (Elt F)) (c : Dev nD) : Dat τ (Elt F) Unit ℕ (UR sig nD τ × UR sig nD τ) ℕ cfg0 c :=
  Cert.Mix.dat pcfgs adm X 0 c

theorem row0 (t : Fin cfg0.N) : defs₀ (F := F) .tc cfg0.body (cfg0.bodyArgs t (cfg0.slots t)) = bodyAt0 t := by
  unfold defs₀; rw [Defs.onTc_tc]

set_option maxHeartbeats 4000000 in
theorem obligation0 (X : Valuation τ sig (Elt F)) (c : Dev nD) :
    Pipeline.BodyObligationLoose (data0 X c) (defs₀ (F := F)) Variants.none () Set.univ (fun _ => true) := fun t => by
  rw [bigSep_W0, row0]
  refine triple_restated (body_keeps0 c (others0 c) iprop(∃ r, prngReg c r) ((data0 X c).owesAt () t.castSucc) (grid0.coords t)
    _ _ _ _ _ _ _ _ _ _ _ _ _ _ _ _ _ _ _ _ _ _ _ _ _ _ _ _ _ _ _ _ _ _ _ _ _ _ _ _ _ _ _ _ _ _ _ _ _ _ _ _ _ _ _ _ ) rfl ?_ fun _ => ?_
  · exact Laws.sep_mono (Entails.of_eq (inv_eq0 c)) .rfl
  · exact Laws.sep_mono (Entails.of_eq (inv_eq0 c).symm) .rfl

/-! ## Region 1 -/

set_option maxHeartbeats 4000000 in
/-- The body of region 1 at the region's invariant: its scratch buffers and its windows' buffers, each at some contents,
    beside what it does not look at. -/
theorem body_keeps1 (c : Dev nD) (B G O : sProp (MT nD τ sig Unit (Elt F) ℕ (UR sig nD τ × UR sig nD τ) ℕ)) (i : grid1.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1024x5376 .bf16) (harg4 : arg4.IsWhole)
    (arg5 : Memref sig .tc .vmem S1x3x2688 .f32) (harg5 : arg5.IsWhole)
    (arg6 : Memref sig .tc .vmem S1x1x2688 .f32) (harg6 : arg6.IsWhole)
    (arg7 : Memref sig .tc .vmem S1x2688x1024 .bf16) (harg7 : arg7.IsWhole)
    (arg8 : Memref sig .tc .vmem S1x1024 .f32) (harg8 : arg8.IsWhole)
    (arg9 : Memref sig .tc .vmem S1x512x1024 .f32) (harg9 : arg9.IsWhole)
    (arg10 : Memref sig .tc .vmem S520x2688 .f32) (harg10 : arg10.IsWhole) :
    Safe defs₀ c iprop(((((∃ X, owns (c.tc : Thread nD τ) arg10 fullShare X)) ∗ B) ∗ G) ∗ O
      ∗ (∃ X, owns (c.tc : Thread nD τ) arg2 fullShare X)
      ∗ (∃ X, owns (c.tc : Thread nD τ) arg3 fullShare X)
      ∗ (∃ X, owns (c.tc : Thread nD τ) arg4 fullShare X)
      ∗ (∃ X, owns (c.tc : Thread nD τ) arg5 fullShare X)
      ∗ (∃ X, owns (c.tc : Thread nD τ) arg6 fullShare X)
      ∗ (∃ X, owns (c.tc : Thread nD τ) arg7 fullShare X)
      ∗ (∃ X, owns (c.tc : Thread nD τ) arg8 fullShare X)
      ∗ (∃ X, owns (c.tc : Thread nD τ) arg9 fullShare X))
      (cc1_ffn0 (F := F) i
      arg2 harg2 arg3 harg3 arg4 harg4 arg5 harg5 arg6 harg6 arg7 harg7 arg8 harg8 arg9 harg9 arg10 harg10) := by
  refine body_safe1 c _ i _ _ _ _ _ _ _ _ _ _ _ _ _ _ _ _ _ _ ?_ ?_ ?_ ?_ ?_ ?_ ?_ ?_ ?_
  all_goals with_reducible first
    | (refine Lends.right (Lends.right ?_)
       repeat (first | exact Lends.owned | exact Lends.left Lends.owned | refine Lends.right ?_)
       done)
    | (refine Lends.left (Lends.left (Lends.left ?_))
       repeat (first | exact Lends.owned | exact Lends.left Lends.owned | refine Lends.right ?_)
       done)

/-- The scoped buffers region 1 has no use for. -/
abbrev others1 (c : Dev nD) : sProp (MT nD τ sig Unit (Elt F) ℕ (UR sig nD τ × UR sig nD τ) ℕ) := Pipeline.scopedRestBut spec1 c [cc1_scratch0]

/-- Region 1's invariant, conjunct by conjunct: its scratch buffers at some contents, the other scoped buffers, the
    generator register. -/
theorem inv_eq1 (c : Dev nD) :
    (Pipeline.ΦA spec1 c : sProp 𝕄) = iprop((((∃ X, owns (c.tc : Thread nD τ) (Memref.whole cc1_scratch0) fullShare X)) ∗ others1 c)
      ∗ ∃ r, prngReg c r) := by
  unfold Pipeline.ΦA
  rw [scopedRest1_split]
  simp only [owns_whole]
  try rfl

/-- The proof data of region 1 entered at `X`. -/
def data1 (X : Valuation τ sig (Elt F)) (c : Dev nD) : Dat τ (Elt F) Unit ℕ (UR sig nD τ × UR sig nD τ) ℕ cfg1 c :=
  Cert.Mix.dat pcfgs adm X 1 c

theorem row1 (t : Fin cfg1.N) : defs₀ (F := F) .tc cfg1.body (cfg1.bodyArgs t (cfg1.slots t)) = bodyAt1 t := by
  unfold defs₀; rw [Defs.onTc_tc]

set_option maxHeartbeats 4000000 in
theorem obligation1 (X : Valuation τ sig (Elt F)) (c : Dev nD) :
    Pipeline.BodyObligationLoose (data1 X c) (defs₀ (F := F)) Variants.none () Set.univ (fun _ => true) := fun t => by
  rw [bigSep_W1, row1]
  refine triple_restated (body_keeps1 c (others1 c) iprop(∃ r, prngReg c r) ((data1 X c).owesAt () t.castSucc) (grid1.coords t)
    _ _ _ _ _ _ _ _ _ _ _ _ _ _ _ _ _ _ ) rfl ?_ fun _ => ?_
  · exact Laws.sep_mono (Entails.of_eq (inv_eq1 c)) .rfl
  · exact Laws.sep_mono (Entails.of_eq (inv_eq1 c).symm) .rfl

/-! ## Region 2 -/

set_option maxHeartbeats 4000000 in
/-- The body of region 2 at the region's invariant: its scratch buffers and its windows' buffers, each at some contents,
    beside what it does not look at. -/
theorem body_keeps2 (c : Dev nD) (B G O : sProp (MT nD τ sig Unit (Elt F) ℕ (UR sig nD τ × UR sig nD τ) ℕ)) (i : grid2.Coords)
    (arg1 : Memref sig .tc .vmem S1x256x1024 .f32) (harg1 : arg1.IsWhole)
    (arg2 : Memref sig .tc .vmem S1x256x1024 .f32) (harg2 : arg2.IsWhole)
    (arg3 : Memref sig .tc .vmem S256x256 .bf16) (harg3 : arg3.IsWhole)
    (arg4 : Memref sig .tc .vmem S256x128 .bf16) (harg4 : arg4.IsWhole)
    (arg5 : Memref sig .tc .vmem S1x1x256 .f32) (harg5 : arg5.IsWhole)
    (arg6 : Memref sig .tc .vmem S1x1x1024 .f32) (harg6 : arg6.IsWhole)
    (arg7 : Memref sig .tc .vmem S1x1024x2944 .bf16) (harg7 : arg7.IsWhole)
    (arg8 : Memref sig .tc .vmem S2x256 .f32) (harg8 : arg8.IsWhole)
    (arg9 : Memref sig .tc .vmem S1x1x256 .f32) (harg9 : arg9.IsWhole)
    (arg10 : Memref sig .tc .vmem S1x4x512 .f32) (harg10 : arg10.IsWhole)
    (arg11 : Memref sig .tc .vmem S1x1x512 .f32) (harg11 : arg11.IsWhole)
    (arg12 : Memref sig .tc .vmem S1x4x128x256 .bf16) (harg12 : arg12.IsWhole)
    (arg13 : Memref sig .tc .vmem S1x1x512 .f32) (harg13 : arg13.IsWhole)
    (arg14 : Memref sig .tc .vmem S1x1x512 .f32) (harg14 : arg14.IsWhole)
    (arg15 : Memref sig .tc .vmem S1x1x512 .f32) (harg15 : arg15.IsWhole)
    (arg16 : Memref sig .tc .vmem S1x128x128 .bf16) (harg16 : arg16.IsWhole)
    (arg17 : Memref sig .tc .vmem S1x1x128 .f32) (harg17 : arg17.IsWhole)
    (arg18 : Memref sig .tc .vmem S1x1x256 .f32) (harg18 : arg18.IsWhole)
    (arg19 : Memref sig .tc .vmem S1x1024x1024 .bf16) (harg19 : arg19.IsWhole)
    (arg20 : Memref sig .tc .vmem S1x256x1024 .f32) (harg20 : arg20.IsWhole)
    (arg21 : Memref sig .tc .vmem S256x256 .f32) (harg21 : arg21.IsWhole)
    (arg22 : Memref sig .tc .vmem S256x128 .f32) (harg22 : arg22.IsWhole)
    (arg23 : Memref sig .tc .vmem S1x512 .f32) (harg23 : arg23.IsWhole)
    (arg24 : Memref sig .tc .vmem S8x512 .f32) (harg24 : arg24.IsWhole)
    (arg25 : Memref sig .tc .vmem S256x2944 .f32) (harg25 : arg25.IsWhole)
    (arg26 : Memref sig .tc .vmem S256x1024 .bf16) (harg26 : arg26.IsWhole)
    (arg27 : Memref sig .tc .vmem S4x4x320x128 .f32) (harg27 : arg27.IsWhole)
    (arg28 : Memref sig .tc .vmem S3x2x320x128 .f32) (harg28 : arg28.IsWhole) :
    Safe defs₀ c iprop(((((∃ X, owns (c.tc : Thread nD τ) arg21 fullShare X) ∗ (∃ X, owns (c.tc : Thread nD τ) arg22 fullShare X) ∗ (∃ X, owns (c.tc : Thread nD τ) arg23 fullShare X) ∗ (∃ X, owns (c.tc : Thread nD τ) arg24 fullShare X) ∗ (∃ X, owns (c.tc : Thread nD τ) arg25 fullShare X) ∗ (∃ X, owns (c.tc : Thread nD τ) arg26 fullShare X) ∗ (∃ X, owns (c.tc : Thread nD τ) arg27 fullShare X) ∗ (∃ X, owns (c.tc : Thread nD τ) arg28 fullShare X)) ∗ B) ∗ G) ∗ O
      ∗ (∃ X, owns (c.tc : Thread nD τ) arg1 fullShare X)
      ∗ (∃ X, owns (c.tc : Thread nD τ) arg2 fullShare X)
      ∗ (∃ X, owns (c.tc : Thread nD τ) arg3 fullShare X)
      ∗ (∃ X, owns (c.tc : Thread nD τ) arg4 fullShare X)
      ∗ (∃ X, owns (c.tc : Thread nD τ) arg5 fullShare X)
      ∗ (∃ X, owns (c.tc : Thread nD τ) arg6 fullShare X)
      ∗ (∃ X, owns (c.tc : Thread nD τ) arg7 fullShare X)
      ∗ (∃ X, owns (c.tc : Thread nD τ) arg8 fullShare X)
      ∗ (∃ X, owns (c.tc : Thread nD τ) arg9 fullShare X)
      ∗ (∃ X, owns (c.tc : Thread nD τ) arg10 fullShare X)
      ∗ (∃ X, owns (c.tc : Thread nD τ) arg11 fullShare X)
      ∗ (∃ X, owns (c.tc : Thread nD τ) arg12 fullShare X)
      ∗ (∃ X, owns (c.tc : Thread nD τ) arg13 fullShare X)
      ∗ (∃ X, owns (c.tc : Thread nD τ) arg14 fullShare X)
      ∗ (∃ X, owns (c.tc : Thread nD τ) arg15 fullShare X)
      ∗ (∃ X, owns (c.tc : Thread nD τ) arg16 fullShare X)
      ∗ (∃ X, owns (c.tc : Thread nD τ) arg17 fullShare X)
      ∗ (∃ X, owns (c.tc : Thread nD τ) arg18 fullShare X)
      ∗ (∃ X, owns (c.tc : Thread nD τ) arg19 fullShare X)
      ∗ (∃ X, owns (c.tc : Thread nD τ) arg20 fullShare X))
      (cc2_mixer1 (F := F) i
      arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25
      arg26 harg26 arg27 harg27 arg28 harg28) := by
  refine body_safe2 c _ i _ _ _ _ _ _ _ _ _ _ _ _ _ _ _ _ _ _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_
  all_goals with_reducible first
    | (refine Lends.right (Lends.right ?_)
       repeat (first | exact Lends.owned | exact Lends.left Lends.owned | refine Lends.right ?_)
       done)
    | (refine Lends.left (Lends.left (Lends.left ?_))
       repeat (first | exact Lends.owned | exact Lends.left Lends.owned | refine Lends.right ?_)
       done)

/-- The scoped buffers region 2 has no use for. -/
abbrev others2 (c : Dev nD) : sProp (MT nD τ sig Unit (Elt F) ℕ (UR sig nD τ × UR sig nD τ) ℕ) := Pipeline.scopedRestBut spec2 c [cc2_scratch0, cc2_scratch1, cc2_scratch2, cc2_scratch3, cc2_scratch4, cc2_scratch5, cc2_scratch6, cc2_scratch7]

/-- Region 2's invariant, conjunct by conjunct: its scratch buffers at some contents, the other scoped buffers, the
    generator register. -/
theorem inv_eq2 (c : Dev nD) :
    (Pipeline.ΦA spec2 c : sProp 𝕄) = iprop((((∃ X, owns (c.tc : Thread nD τ) (Memref.whole cc2_scratch0) fullShare X) ∗ (∃ X, owns (c.tc : Thread nD τ) (Memref.whole cc2_scratch1) fullShare X) ∗ (∃ X, owns (c.tc : Thread nD τ) (Memref.whole cc2_scratch2) fullShare X) ∗ (∃ X, owns (c.tc : Thread nD τ) (Memref.whole cc2_scratch3) fullShare X) ∗ (∃ X, owns (c.tc : Thread nD τ) (Memref.whole cc2_scratch4) fullShare X) ∗ (∃ X, owns (c.tc : Thread nD τ) (Memref.whole cc2_scratch5) fullShare X) ∗ (∃ X, owns (c.tc : Thread nD τ) (Memref.whole cc2_scratch6) fullShare X) ∗ (∃ X, owns (c.tc : Thread nD τ) (Memref.whole cc2_scratch7) fullShare X)) ∗ others2 c)
      ∗ ∃ r, prngReg c r) := by
  unfold Pipeline.ΦA
  rw [scopedRest2_split]
  simp only [owns_whole]
  try rfl

/-- The proof data of region 2 entered at `X`. -/
def data2 (X : Valuation τ sig (Elt F)) (c : Dev nD) : Dat τ (Elt F) Unit ℕ (UR sig nD τ × UR sig nD τ) ℕ cfg2 c :=
  Cert.Mix.dat pcfgs adm X 2 c

theorem row2 (t : Fin cfg2.N) : defs₀ (F := F) .tc cfg2.body (cfg2.bodyArgs t (cfg2.slots t)) = bodyAt2 t := by
  unfold defs₀; rw [Defs.onTc_tc]

set_option maxHeartbeats 4000000 in
theorem obligation2 (X : Valuation τ sig (Elt F)) (c : Dev nD) :
    Pipeline.BodyObligationLoose (data2 X c) (defs₀ (F := F)) Variants.none () Set.univ (fun _ => true) := fun t => by
  rw [bigSep_W2, row2]
  refine triple_restated (body_keeps2 c (others2 c) iprop(∃ r, prngReg c r) ((data2 X c).owesAt () t.castSucc) (grid2.coords t)
    _ _ _ _ _ _ _ _ _ _ _ _ _ _ _ _ _ _ _ _ _ _ _ _ _ _ _ _ _ _ _ _ _ _ _ _ _ _ _ _ _ _ _ _ _ _ _ _ _ _ _ _ _ _ _ _ ) rfl ?_ fun _ => ?_
  · exact Laws.sep_mono (Entails.of_eq (inv_eq2 c)) .rfl
  · exact Laws.sep_mono (Entails.of_eq (inv_eq2 c).symm) .rfl

/-! ## Region 3 -/

set_option maxHeartbeats 4000000 in
/-- The body of region 3 at the region's invariant: its scratch buffers and its windows' buffers, each at some contents,
    beside what it does not look at. -/
theorem body_keeps3 (c : Dev nD) (B G O : sProp (MT nD τ sig Unit (Elt F) ℕ (UR sig nD τ × UR sig nD τ) ℕ)) (i : grid3.Coords)
    (arg2 : Memref sig .tc .vmem S1x512x1024 .f32) (harg2 : arg2.IsWhole)
    (arg3 : Memref sig .tc .vmem S1x1x1024 .f32) (harg3 : arg3.IsWhole)
    (arg4 : Memref sig .tc .vmem S1x1024x5376 .bf16) (harg4 : arg4.IsWhole)
    (arg5 : Memref sig .tc .vmem S1x3x2688 .f32) (harg5 : arg5.IsWhole)
    (arg6 : Memref sig .tc .vmem S1x1x2688 .f32) (harg6 : arg6.IsWhole)
    (arg7 : Memref sig .tc .vmem S1x2688x1024 .bf16) (harg7 : arg7.IsWhole)
    (arg8 : Memref sig .tc .vmem S1x1024 .f32) (harg8 : arg8.IsWhole)
    (arg9 : Memref sig .tc .vmem S1x512x1024 .f32) (harg9 : arg9.IsWhole)
    (arg10 : Memref sig .tc .vmem S520x2688 .f32) (harg10 : arg10.IsWhole) :
    Safe defs₀ c iprop(((((∃ X, owns (c.tc : Thread nD τ) arg10 fullShare X)) ∗ B) ∗ G) ∗ O
      ∗ (∃ X, owns (c.tc : Thread nD τ) arg2 fullShare X)
      ∗ (∃ X, owns (c.tc : Thread nD τ) arg3 fullShare X)
      ∗ (∃ X, owns (c.tc : Thread nD τ) arg4 fullShare X)
      ∗ (∃ X, owns (c.tc : Thread nD τ) arg5 fullShare X)
      ∗ (∃ X, owns (c.tc : Thread nD τ) arg6 fullShare X)
      ∗ (∃ X, owns (c.tc : Thread nD τ) arg7 fullShare X)
      ∗ (∃ X, owns (c.tc : Thread nD τ) arg8 fullShare X)
      ∗ (∃ X, owns (c.tc : Thread nD τ) arg9 fullShare X))
      (cc3_ffn1 (F := F) i
      arg2 harg2 arg3 harg3 arg4 harg4 arg5 harg5 arg6 harg6 arg7 harg7 arg8 harg8 arg9 harg9 arg10 harg10) := by
  refine body_safe3 c _ i _ _ _ _ _ _ _ _ _ _ _ _ _ _ _ _ _ _ ?_ ?_ ?_ ?_ ?_ ?_ ?_ ?_ ?_
  all_goals with_reducible first
    | (refine Lends.right (Lends.right ?_)
       repeat (first | exact Lends.owned | exact Lends.left Lends.owned | refine Lends.right ?_)
       done)
    | (refine Lends.left (Lends.left (Lends.left ?_))
       repeat (first | exact Lends.owned | exact Lends.left Lends.owned | refine Lends.right ?_)
       done)

/-- The scoped buffers region 3 has no use for. -/
abbrev others3 (c : Dev nD) : sProp (MT nD τ sig Unit (Elt F) ℕ (UR sig nD τ × UR sig nD τ) ℕ) := Pipeline.scopedRestBut spec3 c [cc3_scratch0]

/-- Region 3's invariant, conjunct by conjunct: its scratch buffers at some contents, the other scoped buffers, the
    generator register. -/
theorem inv_eq3 (c : Dev nD) :
    (Pipeline.ΦA spec3 c : sProp 𝕄) = iprop((((∃ X, owns (c.tc : Thread nD τ) (Memref.whole cc3_scratch0) fullShare X)) ∗ others3 c)
      ∗ ∃ r, prngReg c r) := by
  unfold Pipeline.ΦA
  rw [scopedRest3_split]
  simp only [owns_whole]
  try rfl

/-- The proof data of region 3 entered at `X`. -/
def data3 (X : Valuation τ sig (Elt F)) (c : Dev nD) : Dat τ (Elt F) Unit ℕ (UR sig nD τ × UR sig nD τ) ℕ cfg3 c :=
  Cert.Mix.dat pcfgs adm X 3 c

theorem row3 (t : Fin cfg3.N) : defs₀ (F := F) .tc cfg3.body (cfg3.bodyArgs t (cfg3.slots t)) = bodyAt3 t := by
  unfold defs₀; rw [Defs.onTc_tc]

set_option maxHeartbeats 4000000 in
theorem obligation3 (X : Valuation τ sig (Elt F)) (c : Dev nD) :
    Pipeline.BodyObligationLoose (data3 X c) (defs₀ (F := F)) Variants.none () Set.univ (fun _ => true) := fun t => by
  rw [bigSep_W3, row3]
  refine triple_restated (body_keeps3 c (others3 c) iprop(∃ r, prngReg c r) ((data3 X c).owesAt () t.castSucc) (grid3.coords t)
    _ _ _ _ _ _ _ _ _ _ _ _ _ _ _ _ _ _ ) rfl ?_ fun _ => ?_
  · exact Laws.sep_mono (Entails.of_eq (inv_eq3 c)) .rfl
  · exact Laws.sep_mono (Entails.of_eq (inv_eq3 c).symm) .rfl

/-! ## @main -/

variable (m : (ℓ : Loc nD τ sig) → Buf (Elt F) ℓ) (ρ : Dev nD → PrngReg)

/-- The arguments' buffers. -/
def args : Finset (Ref sig .tc) :=
  {main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22}

/-- No host stretch writes an argument. -/
theorem args_kept (c : Dev nD) : ∀ b ∈ args, V7 m c (Proc.devRef .tc b) = m ((c.tc : Thread nD τ).loc b) := fun b hb =>
  (V7_of m c b ((by decide : ∀ b ∈ args, b ∉ hostOps0_6_W) b hb)).trans <|
  (V6_of m c b ((by decide : ∀ b ∈ args, b ∉ hostOps0_5_W) b hb)).trans <|
  (V5_of m c b ((by decide : ∀ b ∈ args, b ∉ hostOps0_4_W) b hb)).trans <|
  (V4_of m c b ((by decide : ∀ b ∈ args, b ∉ hostOps0_3_W) b hb)).trans <|
  (V3_of m c b ((by decide : ∀ b ∈ args, b ∉ hostOps0_2_W) b hb)).trans <|
  (V2_of m c b ((by decide : ∀ b ∈ args, b ∉ hostOps0_1_W) b hb)).trans <|
  V1_of m c b ((by decide : ∀ b ∈ args, b ∉ hostOps0_W) b hb)

/-- Region 0 of @main. -/
def region0 (R : Dev nD → sProp (MT nD τ sig Unit (Elt F) ℕ (UR sig nD τ × UR sig nD τ) ℕ)) :
    HostSeg (Ix := Unit) (Name := ℕ) (U := UR sig nD τ × UR sig nD τ) (Lvl := ℕ) (pcfgs (F := F)) defs₀ Variants.none (fun _ => ∅) (fun _ _ => 0) :=
  Cert.Mix.region pcfgs adm defs₀ Variants.none _ _ m args (p := 0) launch₀0.toP rfl (by decide : ∀ w, (spec0 w).isOut = true → Pipeline.arrRef spec0 w ∉ args) obligation0 cellOf_inj embR R

/-- Region 1 of @main. -/
def region1 (R : Dev nD → sProp (MT nD τ sig Unit (Elt F) ℕ (UR sig nD τ × UR sig nD τ) ℕ)) :
    HostSeg (Ix := Unit) (Name := ℕ) (U := UR sig nD τ × UR sig nD τ) (Lvl := ℕ) (pcfgs (F := F)) defs₀ Variants.none (fun _ => ∅) (fun _ _ => 0) :=
  Cert.Mix.region pcfgs adm defs₀ Variants.none _ _ m args (p := 1) launch1.to₀.toP rfl (by decide : ∀ w, (spec1 w).isOut = true → Pipeline.arrRef spec1 w ∉ args) obligation1 cellOf_inj embR R

/-- Region 2 of @main. -/
def region2 (R : Dev nD → sProp (MT nD τ sig Unit (Elt F) ℕ (UR sig nD τ × UR sig nD τ) ℕ)) :
    HostSeg (Ix := Unit) (Name := ℕ) (U := UR sig nD τ × UR sig nD τ) (Lvl := ℕ) (pcfgs (F := F)) defs₀ Variants.none (fun _ => ∅) (fun _ _ => 0) :=
  Cert.Mix.region pcfgs adm defs₀ Variants.none _ _ m args (p := 2) launch₀2.toP rfl (by decide : ∀ w, (spec2 w).isOut = true → Pipeline.arrRef spec2 w ∉ args) obligation2 cellOf_inj embR R

/-- Region 3 of @main. -/
def region3 (R : Dev nD → sProp (MT nD τ sig Unit (Elt F) ℕ (UR sig nD τ × UR sig nD τ) ℕ)) :
    HostSeg (Ix := Unit) (Name := ℕ) (U := UR sig nD τ × UR sig nD τ) (Lvl := ℕ) (pcfgs (F := F)) defs₀ Variants.none (fun _ => ∅) (fun _ _ => 0) :=
  Cert.Mix.region pcfgs adm defs₀ Variants.none _ _ m args (p := 3) launch3.to₀.toP rfl (by decide : ∀ w, (spec3 w).isOut = true → Pipeline.arrRef spec3 w ∉ args) obligation3 cellOf_inj embR R

/-- The ghost state of region `p`. -/
abbrev gh (p : Fin 4) (c : Dev nD) : sProp (MT nD τ sig Unit (Elt F) ℕ (UR sig nD τ × UR sig nD τ) ℕ) := ghost pcfgs adm embR p c

/-- The ghost state of all four. -/
abbrev ghs (c : Dev nD) : sProp (MT nD τ sig Unit (Elt F) ℕ (UR sig nD τ × UR sig nD τ) ℕ) := bigSep Finset.univ fun p : Fin 4 => gh p c

theorem ghs_eq (c : Dev nD) : (ghs c : sProp 𝕄) = iprop(gh 0 c ∗ gh 1 c ∗ gh 2 c ∗ gh 3 c) :=
  bigSep_univ_eq_bigSepL [(0 : Fin 4), (1 : Fin 4), (2 : Fin 4), (3 : Fin 4)] (by decide) (by decide) fun p => gh p c

/-- The items of @main: the host stretches, then the regions. -/
abbrev items (pdats : (p : Fin 4) → (c : Dev nD) → Dat τ (Elt F) Unit ℕ (UR sig nD τ × UR sig nD τ) ℕ (cfgs p) c) :
    List (Seg (pcfgs (F := F)) adm pdats () defs₀ Variants.none (fun _ => ∅) (fun _ _ => (0 : ℕ))) :=
  [.host (seg0 m Variants.none _ _ fun _ => rest ghs), .host (seg1 m Variants.none _ _ fun _ => rest ghs),
   .host (seg2 m Variants.none _ _ fun _ => rest ghs), .host (seg3 m Variants.none _ _ fun _ => rest ghs),
   .host (seg4 m Variants.none _ _ fun _ => rest ghs), .host (seg5 m Variants.none _ _ fun _ => rest ghs),
   .host (seg6 m Variants.none _ _ fun _ => rest ghs),
   .host (region0 m fun c => iprop(gh 1 c ∗ gh 2 c ∗ gh 3 c)), .host (region1 m fun c => iprop(gh 2 c ∗ gh 3 c)),
   .host (region2 m fun c => gh 3 c), .host (region3 m fun _ => iprop(emp))]

/-- After the host stretches, the first region's entry. -/
theorem enter (c : Dev nD) :
    iprop(StableHlo.held (c.tc : Thread nD τ) (Pipeline.ucRefs τ sig) (V7 m c) ∗ rest ghs c)
      ⊢ (iprop(kept m args c ∗ gh 0 c ∗ gh 1 c ∗ gh 2 c ∗ gh 3 c) : sProp 𝕄) :=
  (kept_of_held m args ghs c (V7 m c) (args_kept m c)).trans (Laws.sep_mono .rfl (Entails.of_eq (ghs_eq c)))

set_option backward.isDefEq.respectTransparency.types false in
set_option maxHeartbeats 4000000 in
/-- The launch ends, its argument arrays as they were and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) := by
  refine Pipeline.θ_run_regions_kit_dev_sems (pcfgs (F := F)) adm (fun p c => Cert.Mix.dat pcfgs adm (V0 m c) p c) () cellOf_inj embL defs₀
    Variants.none (fun _ => ∅) (fun _ _ => (0 : ℕ)) m ρ main (fun _ => items m _)
    (fun c Q => by
      rewrite [main_chain c, Seg.run_eq_chain,
        show (items m (fun p c => Cert.Mix.dat pcfgs adm (V0 m c) p c)).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          Prog.lift (.customCall (Pipeline.entry 2) ()),
          Prog.lift (.customCall (Pipeline.entry 3) ()) ] from rfl]
      dsimp (config := { failIfUnchanged := false }) only
      exact .rfl)
    (fun c => by simp only [items, Seg.pipes_host, Seg.pipes_nil]; decide) (fun _ => 0) (fun _ _ => rfl) ghs _
    (fund pcfgs adm cellOf_inj)
    (T₀ := fun c => iprop(StableHlo.held (c.tc : Thread nD τ) (Pipeline.ucRefs τ sig) (V0 m c) ∗ rest ghs c))
    (Tₙ := fun c => left m args c)
    (hch := fun c => ⟨.rfl, .rfl, .rfl, .rfl, .rfl, .rfl, .rfl, enter m c, .rfl, .rfl,
      Laws.sep_mono .rfl Laws.sep_emp.2, Laws.sep_emp.1.trans (left_of_kept m args c)⟩)
    (hinit := start _ _ m ghs ρ (V0 m) fun _ => rfl)
    (QY := fun c s => ∀ b ∈ args, s.mem ((c.tc : Thread nD τ).loc b) = m ((c.tc : Thread nD τ).loc b))
    (hfin := fun c s' => left_read m args (fun b hb => Finset.mem_filter.mpr ⟨StableHlo.devRef_mem_tcRefs b, (by decide : ∀ b ∈ args, ¬ (Proc.devRef .tc b : DevRef τ sig).isScoped = true) b hb⟩) c s')
    (hQ := fun _ h hz => ⟨fun c => ⟨h c main_arg0 (by decide), h c main_arg1 (by decide), h c main_arg2 (by decide), h c main_arg3 (by decide), h c main_arg4 (by decide), h c main_arg5 (by decide), h c main_arg6 (by decide), h c main_arg7 (by decide), h c main_arg8 (by decide), h c main_arg9 (by decide), h c main_arg10 (by decide), h c main_arg11 (by decide), h c main_arg12 (by decide), h c main_arg13 (by decide), h c main_arg14 (by decide), h c main_arg15 (by decide), h c main_arg16 (by decide), h c main_arg17 (by decide), h c main_arg18 (by decide), h c main_arg19 (by decide), h c main_arg20 (by decide), h c main_arg21 (by decide), h c main_arg22 (by decide)⟩, funext fun g => hz g (.inr (regions_no_unscoped g.2))⟩)

end Cert.KernelIdeal.Mix

end
-- ==== Proof.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Ffn.Value
public import proofs.«01_k».proof.Proof.Ffn0.Value
public import proofs.«01_k».proof.Proof.Mix.KernelFrame
public import proofs.«01_k».proof.Proof.Mix.KernelIdealFrame
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  funext i
  rw [Idealize.ShloMosaic.eq_ix3 i]
  refine (Cert.Reference2Ideal.Ffn.res_at m' c _ _ _).trans (Eq.trans ?_ (Cert.Kernel2Ideal.Ffn.result_at m c _ _ _).symm)
  simp only [Cert.Kernel2Ideal.Ffn.outOf, hagree c]

theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  funext i
  rw [Idealize.ShloMosaic.eq_ix3 i]
  refine (Cert.Reference3Ideal.Ffn.res_at m' c _ _ _).trans (Eq.trans ?_ (Cert.Kernel3Ideal.Ffn.result_at m c _ _ _).symm)
  simp only [Cert.Kernel3Ideal.Ffn.outOf, hagree c]

theorem claim : Cert.Claim := ⟨Cert.Kernel.Gen.facts, Cert.KernelIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  fun m ρ _ => Cert.Kernel.Mix.frame m ρ, fun m ρ _ => Cert.KernelIdeal.Mix.frame m ρ,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  (trivial : preserves_Kernel_KernelIdeal), (trivial : preserves_Kernel2_Kernel2Ideal), algebraic_Kernel2Ideal_Reference2Ideal,
  (trivial : preserves_Kernel3_Kernel3Ideal), algebraic_Kernel3Ideal_Reference3Ideal⟩

end Cert.Proof

end
